-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S16x2x16x512 : Shape := ⟨4, ![16, 2, 16, 512]⟩
abbrev S2x16 : Shape := ⟨2, ![2, 16]⟩
abbrev S_ : Shape := ⟨0, ![]⟩
abbrev S1x1 : Shape := ⟨2, ![1, 1]⟩
abbrev S1x1x16x512 : Shape := ⟨4, ![1, 1, 16, 512]⟩
abbrev S16x512 : Shape := ⟨2, ![16, 512]⟩
abbrev S1x2x16x512 : Shape := ⟨4, ![1, 2, 16, 512]⟩
abbrev S16x1x16x512 : Shape := ⟨4, ![16, 1, 16, 512]⟩
abbrev S16x16x512 : Shape := ⟨3, ![16, 16, 512]⟩
abbrev S16 : Shape := ⟨1, ![16]⟩
abbrev S16x1 : Shape := ⟨2, ![16, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .hbm, ⟨2, _⟩ => ⟨S512, .bf16⟩
  | .hbm, ⟨3, _⟩ => ⟨S512x512, .f32⟩
  | .local _ .vmem, ⟨0, _⟩ => ⟨S1x512x512, .bf16⟩
  | .local _ .vmem, ⟨1, _⟩ => ⟨S512x512, .bf16⟩
  | .local _ .vmem, ⟨2, _⟩ => ⟨S512, .bf16⟩
  | .local _ .vmem, ⟨3, _⟩ => ⟨S512x512, .f32⟩
  | .local _ .vmem, ⟨4, _⟩ => ⟨S16x2x16x512, .bf16⟩
  | .local _ .vmem, ⟨5, _⟩ => ⟨S16x2x16x512, .bf16⟩
  | .local _ .vmem, ⟨6, _⟩ => ⟨S16x2x16x512, .bf16⟩
  | _, _ => ⟨S1x512x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_450 : BitVec 32 := 0#32
  let c0_i32_448 : BitVec 32 := 0#32
  let c1_i32_449 : BitVec 32 := 1#32
  let v710 : BitVec 32 := Scalar.muli c0_i32_448 c1_i32_449
  let v711 : BitVec 32 := Scalar.addi c0_i32_450 v710
  v711.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_450 : BitVec 32 := 0#32
  let c1_i32_448 : BitVec 32 := 1#32
  let c1_i32_449 : BitVec 32 := 1#32
  let v710 : BitVec 32 := Scalar.muli c1_i32_448 c1_i32_449
  let v711 : BitVec 32 := Scalar.addi c0_i32_450 v710
  v711.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_450 : BitVec 32 := 0#32
  let c2_i32_448 : BitVec 32 := 2#32
  let c1_i32_449 : BitVec 32 := 1#32
  let v710 : BitVec 32 := Scalar.muli c2_i32_448 c1_i32_449
  let v711 : BitVec 32 := Scalar.addi c0_i32_450 v710
  v711.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_450 : BitVec 32 := 0#32
  let c3_i32_448 : BitVec 32 := 3#32
  let c1_i32_449 : BitVec 32 := 1#32
  let v710 : BitVec 32 := Scalar.muli c3_i32_448 c1_i32_449
  let v711 : BitVec 32 := Scalar.addi c0_i32_450 v710
  v711.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_450 : BitVec 32 := 0#32
  let c4_i32_448 : BitVec 32 := 4#32
  let c1_i32_449 : BitVec 32 := 1#32
  let v710 : BitVec 32 := Scalar.muli c4_i32_448 c1_i32_449
  let v711 : BitVec 32 := Scalar.addi c0_i32_450 v710
  v711.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_450 : BitVec 32 := 0#32
  let c5_i32_448 : BitVec 32 := 5#32
  let c1_i32_449 : BitVec 32 := 1#32
  let v710 : BitVec 32 := Scalar.muli c5_i32_448 c1_i32_449
  let v711 : BitVec 32 := Scalar.addi c0_i32_450 v710
  v711.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_450 : BitVec 32 := 0#32
  let c6_i32_448 : BitVec 32 := 6#32
  let c1_i32_449 : BitVec 32 := 1#32
  let v710 : BitVec 32 := Scalar.muli c6_i32_448 c1_i32_449
  let v711 : BitVec 32 := Scalar.addi c0_i32_450 v710
  v711.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_450 : BitVec 32 := 0#32
  let c7_i32_448 : BitVec 32 := 7#32
  let c1_i32_449 : BitVec 32 := 1#32
  let v710 : BitVec 32 := Scalar.muli c7_i32_448 c1_i32_449
  let v711 : BitVec 32 := Scalar.addi c0_i32_450 v710
  v711.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_450 : BitVec 32 := 0#32
  let c8_i32_448 : BitVec 32 := 8#32
  let c1_i32_449 : BitVec 32 := 1#32
  let v710 : BitVec 32 := Scalar.muli c8_i32_448 c1_i32_449
  let v711 : BitVec 32 := Scalar.addi c0_i32_450 v710
  v711.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_450 : BitVec 32 := 0#32
  let c9_i32_448 : BitVec 32 := 9#32
  let c1_i32_449 : BitVec 32 := 1#32
  let v710 : BitVec 32 := Scalar.muli c9_i32_448 c1_i32_449
  let v711 : BitVec 32 := Scalar.addi c0_i32_450 v710
  v711.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_450 : BitVec 32 := 0#32
  let c10_i32_448 : BitVec 32 := 10#32
  let c1_i32_449 : BitVec 32 := 1#32
  let v710 : BitVec 32 := Scalar.muli c10_i32_448 c1_i32_449
  let v711 : BitVec 32 := Scalar.addi c0_i32_450 v710
  v711.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_450 : BitVec 32 := 0#32
  let c11_i32_448 : BitVec 32 := 11#32
  let c1_i32_449 : BitVec 32 := 1#32
  let v710 : BitVec 32 := Scalar.muli c11_i32_448 c1_i32_449
  let v711 : BitVec 32 := Scalar.addi c0_i32_450 v710
  v711.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_450 : BitVec 32 := 0#32
  let c12_i32_448 : BitVec 32 := 12#32
  let c1_i32_449 : BitVec 32 := 1#32
  let v710 : BitVec 32 := Scalar.muli c12_i32_448 c1_i32_449
  let v711 : BitVec 32 := Scalar.addi c0_i32_450 v710
  v711.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_450 : BitVec 32 := 0#32
  let c13_i32_448 : BitVec 32 := 13#32
  let c1_i32_449 : BitVec 32 := 1#32
  let v710 : BitVec 32 := Scalar.muli c13_i32_448 c1_i32_449
  let v711 : BitVec 32 := Scalar.addi c0_i32_450 v710
  v711.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_450 : BitVec 32 := 0#32
  let c14_i32_448 : BitVec 32 := 14#32
  let c1_i32_449 : BitVec 32 := 1#32
  let v710 : BitVec 32 := Scalar.muli c14_i32_448 c1_i32_449
  let v711 : BitVec 32 := Scalar.addi c0_i32_450 v710
  v711.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_450 : BitVec 32 := 0#32
  let c15_i32_448 : BitVec 32 := 15#32
  let c1_i32_449 : BitVec 32 := 1#32
  let v710 : BitVec 32 := Scalar.muli c15_i32_448 c1_i32_449
  let v711 : BitVec 32 := Scalar.addi c0_i32_450 v710
  v711.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_24 : BitVec 32 := 0#32
  let v58 : BitVec 1 := Scalar.cmpi .ne v2 c0_i32_24
  let v59 : BitVec 32 := Scalar.extui v58
  let c0_i32_25 : BitVec 32 := 0#32
  let v60 : BitVec 1 := Scalar.cmpi .ne v59 c0_i32_25
  v60

def k0_off1 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev17 : Nat :=
  let c0_i32_455 : BitVec 32 := 0#32
  let c0_i32_453 : BitVec 32 := 0#32
  let c1_i32_454 : BitVec 32 := 1#32
  let v710 : BitVec 32 := Scalar.muli c0_i32_453 c1_i32_454
  let v711 : BitVec 32 := Scalar.addi c0_i32_455 v710
  v711.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v61 : BitVec 1 := Scalar.cmpi .ne v2 c1_i32_26
  let v62 : BitVec 32 := Scalar.extui v61
  let c0_i32_27 : BitVec 32 := 0#32
  let v63 : BitVec 1 := Scalar.cmpi .ne v62 c0_i32_27
  v63

def k0_off3 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev18 : Nat :=
  let c0_i32_455 : BitVec 32 := 0#32
  let c1_i32_453 : BitVec 32 := 1#32
  let c1_i32_454 : BitVec 32 := 1#32
  let v710 : BitVec 32 := Scalar.muli c1_i32_453 c1_i32_454
  let v711 : BitVec 32 := Scalar.addi c0_i32_455 v710
  v711.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_28 : BitVec 32 := 2#32
  let v64 : BitVec 1 := Scalar.cmpi .ne v2 c2_i32_28
  let v65 : BitVec 32 := Scalar.extui v64
  let c0_i32_29 : BitVec 32 := 0#32
  let v66 : BitVec 1 := Scalar.cmpi .ne v65 c0_i32_29
  v66

def k0_off5 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev19 : Nat :=
  let c0_i32_455 : BitVec 32 := 0#32
  let c2_i32_453 : BitVec 32 := 2#32
  let c1_i32_454 : BitVec 32 := 1#32
  let v710 : BitVec 32 := Scalar.muli c2_i32_453 c1_i32_454
  let v711 : BitVec 32 := Scalar.addi c0_i32_455 v710
  v711.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_30 : BitVec 32 := 3#32
  let v67 : BitVec 1 := Scalar.cmpi .ne v2 c3_i32_30
  let v68 : BitVec 32 := Scalar.extui v67
  let c0_i32_31 : BitVec 32 := 0#32
  let v69 : BitVec 1 := Scalar.cmpi .ne v68 c0_i32_31
  v69

def k0_off7 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off8 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev20 : Nat :=
  let c0_i32_455 : BitVec 32 := 0#32
  let c3_i32_453 : BitVec 32 := 3#32
  let c1_i32_454 : BitVec 32 := 1#32
  let v710 : BitVec 32 := Scalar.muli c3_i32_453 c1_i32_454
  let v711 : BitVec 32 := Scalar.addi c0_i32_455 v710
  v711.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_32 : BitVec 32 := 4#32
  let v70 : BitVec 1 := Scalar.cmpi .ne v2 c4_i32_32
  let v71 : BitVec 32 := Scalar.extui v70
  let c0_i32_33 : BitVec 32 := 0#32
  let v72 : BitVec 1 := Scalar.cmpi .ne v71 c0_i32_33
  v72

def k0_off9 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off10 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev21 : Nat :=
  let c0_i32_455 : BitVec 32 := 0#32
  let c4_i32_453 : BitVec 32 := 4#32
  let c1_i32_454 : BitVec 32 := 1#32
  let v710 : BitVec 32 := Scalar.muli c4_i32_453 c1_i32_454
  let v711 : BitVec 32 := Scalar.addi c0_i32_455 v710
  v711.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_34 : BitVec 32 := 5#32
  let v73 : BitVec 1 := Scalar.cmpi .ne v2 c5_i32_34
  let v74 : BitVec 32 := Scalar.extui v73
  let c0_i32_35 : BitVec 32 := 0#32
  let v75 : BitVec 1 := Scalar.cmpi .ne v74 c0_i32_35
  v75

def k0_off11 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off12 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev22 : Nat :=
  let c0_i32_455 : BitVec 32 := 0#32
  let c5_i32_453 : BitVec 32 := 5#32
  let c1_i32_454 : BitVec 32 := 1#32
  let v710 : BitVec 32 := Scalar.muli c5_i32_453 c1_i32_454
  let v711 : BitVec 32 := Scalar.addi c0_i32_455 v710
  v711.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_36 : BitVec 32 := 6#32
  let v76 : BitVec 1 := Scalar.cmpi .ne v2 c6_i32_36
  let v77 : BitVec 32 := Scalar.extui v76
  let c0_i32_37 : BitVec 32 := 0#32
  let v78 : BitVec 1 := Scalar.cmpi .ne v77 c0_i32_37
  v78

def k0_off13 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off14 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev23 : Nat :=
  let c0_i32_455 : BitVec 32 := 0#32
  let c6_i32_453 : BitVec 32 := 6#32
  let c1_i32_454 : BitVec 32 := 1#32
  let v710 : BitVec 32 := Scalar.muli c6_i32_453 c1_i32_454
  let v711 : BitVec 32 := Scalar.addi c0_i32_455 v710
  v711.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_38 : BitVec 32 := 7#32
  let v79 : BitVec 1 := Scalar.cmpi .ne v2 c7_i32_38
  let v80 : BitVec 32 := Scalar.extui v79
  let c0_i32_39 : BitVec 32 := 0#32
  let v81 : BitVec 1 := Scalar.cmpi .ne v80 c0_i32_39
  v81

def k0_off15 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off16 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev24 : Nat :=
  let c0_i32_455 : BitVec 32 := 0#32
  let c7_i32_453 : BitVec 32 := 7#32
  let c1_i32_454 : BitVec 32 := 1#32
  let v710 : BitVec 32 := Scalar.muli c7_i32_453 c1_i32_454
  let v711 : BitVec 32 := Scalar.addi c0_i32_455 v710
  v711.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_40 : BitVec 32 := 8#32
  let v82 : BitVec 1 := Scalar.cmpi .ne v2 c8_i32_40
  let v83 : BitVec 32 := Scalar.extui v82
  let c0_i32_41 : BitVec 32 := 0#32
  let v84 : BitVec 1 := Scalar.cmpi .ne v83 c0_i32_41
  v84

def k0_off17 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off18 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev25 : Nat :=
  let c0_i32_455 : BitVec 32 := 0#32
  let c8_i32_453 : BitVec 32 := 8#32
  let c1_i32_454 : BitVec 32 := 1#32
  let v710 : BitVec 32 := Scalar.muli c8_i32_453 c1_i32_454
  let v711 : BitVec 32 := Scalar.addi c0_i32_455 v710
  v711.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_42 : BitVec 32 := 9#32
  let v85 : BitVec 1 := Scalar.cmpi .ne v2 c9_i32_42
  let v86 : BitVec 32 := Scalar.extui v85
  let c0_i32_43 : BitVec 32 := 0#32
  let v87 : BitVec 1 := Scalar.cmpi .ne v86 c0_i32_43
  v87

def k0_off19 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev26 : Nat :=
  let c0_i32_455 : BitVec 32 := 0#32
  let c9_i32_453 : BitVec 32 := 9#32
  let c1_i32_454 : BitVec 32 := 1#32
  let v710 : BitVec 32 := Scalar.muli c9_i32_453 c1_i32_454
  let v711 : BitVec 32 := Scalar.addi c0_i32_455 v710
  v711.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_44 : BitVec 32 := 10#32
  let v88 : BitVec 1 := Scalar.cmpi .ne v2 c10_i32_44
  let v89 : BitVec 32 := Scalar.extui v88
  let c0_i32_45 : BitVec 32 := 0#32
  let v90 : BitVec 1 := Scalar.cmpi .ne v89 c0_i32_45
  v90

def k0_off21 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off22 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev27 : Nat :=
  let c0_i32_455 : BitVec 32 := 0#32
  let c10_i32_453 : BitVec 32 := 10#32
  let c1_i32_454 : BitVec 32 := 1#32
  let v710 : BitVec 32 := Scalar.muli c10_i32_453 c1_i32_454
  let v711 : BitVec 32 := Scalar.addi c0_i32_455 v710
  v711.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_46 : BitVec 32 := 11#32
  let v91 : BitVec 1 := Scalar.cmpi .ne v2 c11_i32_46
  let v92 : BitVec 32 := Scalar.extui v91
  let c0_i32_47 : BitVec 32 := 0#32
  let v93 : BitVec 1 := Scalar.cmpi .ne v92 c0_i32_47
  v93

def k0_off23 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off24 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev28 : Nat :=
  let c0_i32_455 : BitVec 32 := 0#32
  let c11_i32_453 : BitVec 32 := 11#32
  let c1_i32_454 : BitVec 32 := 1#32
  let v710 : BitVec 32 := Scalar.muli c11_i32_453 c1_i32_454
  let v711 : BitVec 32 := Scalar.addi c0_i32_455 v710
  v711.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_48 : BitVec 32 := 12#32
  let v94 : BitVec 1 := Scalar.cmpi .ne v2 c12_i32_48
  let v95 : BitVec 32 := Scalar.extui v94
  let c0_i32_49 : BitVec 32 := 0#32
  let v96 : BitVec 1 := Scalar.cmpi .ne v95 c0_i32_49
  v96

def k0_off25 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off26 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev29 : Nat :=
  let c0_i32_455 : BitVec 32 := 0#32
  let c12_i32_453 : BitVec 32 := 12#32
  let c1_i32_454 : BitVec 32 := 1#32
  let v710 : BitVec 32 := Scalar.muli c12_i32_453 c1_i32_454
  let v711 : BitVec 32 := Scalar.addi c0_i32_455 v710
  v711.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_50 : BitVec 32 := 13#32
  let v97 : BitVec 1 := Scalar.cmpi .ne v2 c13_i32_50
  let v98 : BitVec 32 := Scalar.extui v97
  let c0_i32_51 : BitVec 32 := 0#32
  let v99 : BitVec 1 := Scalar.cmpi .ne v98 c0_i32_51
  v99

def k0_off27 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off28 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev30 : Nat :=
  let c0_i32_455 : BitVec 32 := 0#32
  let c13_i32_453 : BitVec 32 := 13#32
  let c1_i32_454 : BitVec 32 := 1#32
  let v710 : BitVec 32 := Scalar.muli c13_i32_453 c1_i32_454
  let v711 : BitVec 32 := Scalar.addi c0_i32_455 v710
  v711.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_52 : BitVec 32 := 14#32
  let v100 : BitVec 1 := Scalar.cmpi .ne v2 c14_i32_52
  let v101 : BitVec 32 := Scalar.extui v100
  let c0_i32_53 : BitVec 32 := 0#32
  let v102 : BitVec 1 := Scalar.cmpi .ne v101 c0_i32_53
  v102

def k0_off29 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off30 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev31 : Nat :=
  let c0_i32_455 : BitVec 32 := 0#32
  let c14_i32_453 : BitVec 32 := 14#32
  let c1_i32_454 : BitVec 32 := 1#32
  let v710 : BitVec 32 := Scalar.muli c14_i32_453 c1_i32_454
  let v711 : BitVec 32 := Scalar.addi c0_i32_455 v710
  v711.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_54 : BitVec 32 := 15#32
  let v103 : BitVec 1 := Scalar.cmpi .ne v2 c15_i32_54
  let v104 : BitVec 32 := Scalar.extui v103
  let c0_i32_55 : BitVec 32 := 0#32
  let v105 : BitVec 1 := Scalar.cmpi .ne v104 c0_i32_55
  v105

def k0_off31 (d0 : Dev nD) : Fin 2 → Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off32 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_449 : BitVec 32 := 0#32
  let c0_i32_456 : BitVec 32 := 0#32
  let c0_i32_457 : BitVec 32 := 0#32
  ![v2.toNat, 0, 0, 0]
def k0_dev32 : Nat :=
  let c0_i32_455 : BitVec 32 := 0#32
  let c15_i32_453 : BitVec 32 := 15#32
  let c1_i32_454 : BitVec 32 := 1#32
  let v710 : BitVec 32 := Scalar.muli c15_i32_453 c1_i32_454
  let v711 : BitVec 32 := Scalar.addi c0_i32_455 v710
  v711.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_56 : BitVec 32 := 0#32
  let v106 : BitVec 1 := Scalar.cmpi .ne v2 c0_i32_56
  let v107 : BitVec 32 := Scalar.extui v106
  let c0_i32_57 : BitVec 32 := 0#32
  let v108 : BitVec 1 := Scalar.cmpi .ne v107 c0_i32_57
  v108

def k0_off33 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off34 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev33 : Nat :=
  let c0_i32_455 : BitVec 32 := 0#32
  let c0_i32_453 : BitVec 32 := 0#32
  let c1_i32_454 : BitVec 32 := 1#32
  let v710 : BitVec 32 := Scalar.muli c0_i32_453 c1_i32_454
  let v711 : BitVec 32 := Scalar.addi c0_i32_455 v710
  v711.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_58 : BitVec 32 := 1#32
  let v109 : BitVec 1 := Scalar.cmpi .ne v2 c1_i32_58
  let v110 : BitVec 32 := Scalar.extui v109
  let c0_i32_59 : BitVec 32 := 0#32
  let v111 : BitVec 1 := Scalar.cmpi .ne v110 c0_i32_59
  v111

def k0_off35 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off36 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev34 : Nat :=
  let c0_i32_455 : BitVec 32 := 0#32
  let c1_i32_453 : BitVec 32 := 1#32
  let c1_i32_454 : BitVec 32 := 1#32
  let v710 : BitVec 32 := Scalar.muli c1_i32_453 c1_i32_454
  let v711 : BitVec 32 := Scalar.addi c0_i32_455 v710
  v711.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_60 : BitVec 32 := 2#32
  let v112 : BitVec 1 := Scalar.cmpi .ne v2 c2_i32_60
  let v113 : BitVec 32 := Scalar.extui v112
  let c0_i32_61 : BitVec 32 := 0#32
  let v114 : BitVec 1 := Scalar.cmpi .ne v113 c0_i32_61
  v114

def k0_off37 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off38 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev35 : Nat :=
  let c0_i32_455 : BitVec 32 := 0#32
  let c2_i32_453 : BitVec 32 := 2#32
  let c1_i32_454 : BitVec 32 := 1#32
  let v710 : BitVec 32 := Scalar.muli c2_i32_453 c1_i32_454
  let v711 : BitVec 32 := Scalar.addi c0_i32_455 v710
  v711.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_62 : BitVec 32 := 3#32
  let v115 : BitVec 1 := Scalar.cmpi .ne v2 c3_i32_62
  let v116 : BitVec 32 := Scalar.extui v115
  let c0_i32_63 : BitVec 32 := 0#32
  let v117 : BitVec 1 := Scalar.cmpi .ne v116 c0_i32_63
  v117

def k0_off39 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off40 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev36 : Nat :=
  let c0_i32_455 : BitVec 32 := 0#32
  let c3_i32_453 : BitVec 32 := 3#32
  let c1_i32_454 : BitVec 32 := 1#32
  let v710 : BitVec 32 := Scalar.muli c3_i32_453 c1_i32_454
  let v711 : BitVec 32 := Scalar.addi c0_i32_455 v710
  v711.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_64 : BitVec 32 := 4#32
  let v118 : BitVec 1 := Scalar.cmpi .ne v2 c4_i32_64
  let v119 : BitVec 32 := Scalar.extui v118
  let c0_i32_65 : BitVec 32 := 0#32
  let v120 : BitVec 1 := Scalar.cmpi .ne v119 c0_i32_65
  v120

def k0_off41 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off42 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev37 : Nat :=
  let c0_i32_455 : BitVec 32 := 0#32
  let c4_i32_453 : BitVec 32 := 4#32
  let c1_i32_454 : BitVec 32 := 1#32
  let v710 : BitVec 32 := Scalar.muli c4_i32_453 c1_i32_454
  let v711 : BitVec 32 := Scalar.addi c0_i32_455 v710
  v711.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_66 : BitVec 32 := 5#32
  let v121 : BitVec 1 := Scalar.cmpi .ne v2 c5_i32_66
  let v122 : BitVec 32 := Scalar.extui v121
  let c0_i32_67 : BitVec 32 := 0#32
  let v123 : BitVec 1 := Scalar.cmpi .ne v122 c0_i32_67
  v123

def k0_off43 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off44 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev38 : Nat :=
  let c0_i32_455 : BitVec 32 := 0#32
  let c5_i32_453 : BitVec 32 := 5#32
  let c1_i32_454 : BitVec 32 := 1#32
  let v710 : BitVec 32 := Scalar.muli c5_i32_453 c1_i32_454
  let v711 : BitVec 32 := Scalar.addi c0_i32_455 v710
  v711.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_68 : BitVec 32 := 6#32
  let v124 : BitVec 1 := Scalar.cmpi .ne v2 c6_i32_68
  let v125 : BitVec 32 := Scalar.extui v124
  let c0_i32_69 : BitVec 32 := 0#32
  let v126 : BitVec 1 := Scalar.cmpi .ne v125 c0_i32_69
  v126

def k0_off45 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off46 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev39 : Nat :=
  let c0_i32_455 : BitVec 32 := 0#32
  let c6_i32_453 : BitVec 32 := 6#32
  let c1_i32_454 : BitVec 32 := 1#32
  let v710 : BitVec 32 := Scalar.muli c6_i32_453 c1_i32_454
  let v711 : BitVec 32 := Scalar.addi c0_i32_455 v710
  v711.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_70 : BitVec 32 := 7#32
  let v127 : BitVec 1 := Scalar.cmpi .ne v2 c7_i32_70
  let v128 : BitVec 32 := Scalar.extui v127
  let c0_i32_71 : BitVec 32 := 0#32
  let v129 : BitVec 1 := Scalar.cmpi .ne v128 c0_i32_71
  v129

def k0_off47 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off48 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev40 : Nat :=
  let c0_i32_455 : BitVec 32 := 0#32
  let c7_i32_453 : BitVec 32 := 7#32
  let c1_i32_454 : BitVec 32 := 1#32
  let v710 : BitVec 32 := Scalar.muli c7_i32_453 c1_i32_454
  let v711 : BitVec 32 := Scalar.addi c0_i32_455 v710
  v711.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_72 : BitVec 32 := 8#32
  let v130 : BitVec 1 := Scalar.cmpi .ne v2 c8_i32_72
  let v131 : BitVec 32 := Scalar.extui v130
  let c0_i32_73 : BitVec 32 := 0#32
  let v132 : BitVec 1 := Scalar.cmpi .ne v131 c0_i32_73
  v132

def k0_off49 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off50 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev41 : Nat :=
  let c0_i32_455 : BitVec 32 := 0#32
  let c8_i32_453 : BitVec 32 := 8#32
  let c1_i32_454 : BitVec 32 := 1#32
  let v710 : BitVec 32 := Scalar.muli c8_i32_453 c1_i32_454
  let v711 : BitVec 32 := Scalar.addi c0_i32_455 v710
  v711.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_74 : BitVec 32 := 9#32
  let v133 : BitVec 1 := Scalar.cmpi .ne v2 c9_i32_74
  let v134 : BitVec 32 := Scalar.extui v133
  let c0_i32_75 : BitVec 32 := 0#32
  let v135 : BitVec 1 := Scalar.cmpi .ne v134 c0_i32_75
  v135

def k0_off51 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off52 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev42 : Nat :=
  let c0_i32_455 : BitVec 32 := 0#32
  let c9_i32_453 : BitVec 32 := 9#32
  let c1_i32_454 : BitVec 32 := 1#32
  let v710 : BitVec 32 := Scalar.muli c9_i32_453 c1_i32_454
  let v711 : BitVec 32 := Scalar.addi c0_i32_455 v710
  v711.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_76 : BitVec 32 := 10#32
  let v136 : BitVec 1 := Scalar.cmpi .ne v2 c10_i32_76
  let v137 : BitVec 32 := Scalar.extui v136
  let c0_i32_77 : BitVec 32 := 0#32
  let v138 : BitVec 1 := Scalar.cmpi .ne v137 c0_i32_77
  v138

def k0_off53 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off54 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev43 : Nat :=
  let c0_i32_455 : BitVec 32 := 0#32
  let c10_i32_453 : BitVec 32 := 10#32
  let c1_i32_454 : BitVec 32 := 1#32
  let v710 : BitVec 32 := Scalar.muli c10_i32_453 c1_i32_454
  let v711 : BitVec 32 := Scalar.addi c0_i32_455 v710
  v711.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_78 : BitVec 32 := 11#32
  let v139 : BitVec 1 := Scalar.cmpi .ne v2 c11_i32_78
  let v140 : BitVec 32 := Scalar.extui v139
  let c0_i32_79 : BitVec 32 := 0#32
  let v141 : BitVec 1 := Scalar.cmpi .ne v140 c0_i32_79
  v141

def k0_off55 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off56 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev44 : Nat :=
  let c0_i32_455 : BitVec 32 := 0#32
  let c11_i32_453 : BitVec 32 := 11#32
  let c1_i32_454 : BitVec 32 := 1#32
  let v710 : BitVec 32 := Scalar.muli c11_i32_453 c1_i32_454
  let v711 : BitVec 32 := Scalar.addi c0_i32_455 v710
  v711.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_80 : BitVec 32 := 12#32
  let v142 : BitVec 1 := Scalar.cmpi .ne v2 c12_i32_80
  let v143 : BitVec 32 := Scalar.extui v142
  let c0_i32_81 : BitVec 32 := 0#32
  let v144 : BitVec 1 := Scalar.cmpi .ne v143 c0_i32_81
  v144

def k0_off57 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off58 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev45 : Nat :=
  let c0_i32_455 : BitVec 32 := 0#32
  let c12_i32_453 : BitVec 32 := 12#32
  let c1_i32_454 : BitVec 32 := 1#32
  let v710 : BitVec 32 := Scalar.muli c12_i32_453 c1_i32_454
  let v711 : BitVec 32 := Scalar.addi c0_i32_455 v710
  v711.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_82 : BitVec 32 := 13#32
  let v145 : BitVec 1 := Scalar.cmpi .ne v2 c13_i32_82
  let v146 : BitVec 32 := Scalar.extui v145
  let c0_i32_83 : BitVec 32 := 0#32
  let v147 : BitVec 1 := Scalar.cmpi .ne v146 c0_i32_83
  v147

def k0_off59 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off60 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev46 : Nat :=
  let c0_i32_455 : BitVec 32 := 0#32
  let c13_i32_453 : BitVec 32 := 13#32
  let c1_i32_454 : BitVec 32 := 1#32
  let v710 : BitVec 32 := Scalar.muli c13_i32_453 c1_i32_454
  let v711 : BitVec 32 := Scalar.addi c0_i32_455 v710
  v711.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_84 : BitVec 32 := 14#32
  let v148 : BitVec 1 := Scalar.cmpi .ne v2 c14_i32_84
  let v149 : BitVec 32 := Scalar.extui v148
  let c0_i32_85 : BitVec 32 := 0#32
  let v150 : BitVec 1 := Scalar.cmpi .ne v149 c0_i32_85
  v150

def k0_off61 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off62 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev47 : Nat :=
  let c0_i32_455 : BitVec 32 := 0#32
  let c14_i32_453 : BitVec 32 := 14#32
  let c1_i32_454 : BitVec 32 := 1#32
  let v710 : BitVec 32 := Scalar.muli c14_i32_453 c1_i32_454
  let v711 : BitVec 32 := Scalar.addi c0_i32_455 v710
  v711.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_86 : BitVec 32 := 15#32
  let v151 : BitVec 1 := Scalar.cmpi .ne v2 c15_i32_86
  let v152 : BitVec 32 := Scalar.extui v151
  let c0_i32_87 : BitVec 32 := 0#32
  let v153 : BitVec 1 := Scalar.cmpi .ne v152 c0_i32_87
  v153

def k0_off63 (d0 : Dev nD) : Fin 2 → Nat :=
  let c1_i32_450 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off64 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_449 : BitVec 32 := 1#32
  let c0_i32_456 : BitVec 32 := 0#32
  let c0_i32_457 : BitVec 32 := 0#32
  ![v2.toNat, 1, 0, 0]
def k0_dev48 : Nat :=
  let c0_i32_455 : BitVec 32 := 0#32
  let c15_i32_453 : BitVec 32 := 15#32
  let c1_i32_454 : BitVec 32 := 1#32
  let v710 : BitVec 32 := Scalar.muli c15_i32_453 c1_i32_454
  let v711 : BitVec 32 := Scalar.addi c0_i32_455 v710
  v711.toNat
def k0_off65 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v154 : Index := Scalar.indexCast v2
  let c0_88 : Index := 0#32
  let c0_89 : Index := 0#32
  let c0_90 : Index := 0#32
  ![v154.toNat, 0, 0, 0]
def k0_off66 (d0 : Dev nD) (c0_i32_130 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v212 : BitVec 32 := Scalar.muli v2 c32_i32
  let v213 : BitVec 32 := Scalar.addi v212 c0_i32_130
  let v214 : Index := Scalar.indexCast v213
  let c0_131 : Index := 0#32
  ![v214.toNat, 0]
def k0_off67 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v237 : Index := Scalar.indexCast v2
  let c0_136 : Index := 0#32
  let c0_137 : Index := 0#32
  let c0_138 : Index := 0#32
  ![v237.toNat, 0, 0, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_139 : BitVec 32 := 0#32
  let v241 : BitVec 1 := Scalar.cmpi .ne v2 c0_i32_139
  let v242 : BitVec 32 := Scalar.extui v241
  let c0_i32_140 : BitVec 32 := 0#32
  let v243 : BitVec 1 := Scalar.cmpi .ne v242 c0_i32_140
  v243

def k0_off68 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off69 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev49 : Nat :=
  let c0_i32_454 : BitVec 32 := 0#32
  let c0_i32_452 : BitVec 32 := 0#32
  let c1_i32_453 : BitVec 32 := 1#32
  let v710 : BitVec 32 := Scalar.muli c0_i32_452 c1_i32_453
  let v711 : BitVec 32 := Scalar.addi c0_i32_454 v710
  v711.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_141 : BitVec 32 := 1#32
  let v244 : BitVec 1 := Scalar.cmpi .ne v2 c1_i32_141
  let v245 : BitVec 32 := Scalar.extui v244
  let c0_i32_142 : BitVec 32 := 0#32
  let v246 : BitVec 1 := Scalar.cmpi .ne v245 c0_i32_142
  v246

def k0_off70 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off71 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev50 : Nat :=
  let c0_i32_454 : BitVec 32 := 0#32
  let c1_i32_452 : BitVec 32 := 1#32
  let c1_i32_453 : BitVec 32 := 1#32
  let v710 : BitVec 32 := Scalar.muli c1_i32_452 c1_i32_453
  let v711 : BitVec 32 := Scalar.addi c0_i32_454 v710
  v711.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_143 : BitVec 32 := 2#32
  let v247 : BitVec 1 := Scalar.cmpi .ne v2 c2_i32_143
  let v248 : BitVec 32 := Scalar.extui v247
  let c0_i32_144 : BitVec 32 := 0#32
  let v249 : BitVec 1 := Scalar.cmpi .ne v248 c0_i32_144
  v249

def k0_off72 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off73 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev51 : Nat :=
  let c0_i32_454 : BitVec 32 := 0#32
  let c2_i32_452 : BitVec 32 := 2#32
  let c1_i32_453 : BitVec 32 := 1#32
  let v710 : BitVec 32 := Scalar.muli c2_i32_452 c1_i32_453
  let v711 : BitVec 32 := Scalar.addi c0_i32_454 v710
  v711.toNat
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_145 : BitVec 32 := 3#32
  let v250 : BitVec 1 := Scalar.cmpi .ne v2 c3_i32_145
  let v251 : BitVec 32 := Scalar.extui v250
  let c0_i32_146 : BitVec 32 := 0#32
  let v252 : BitVec 1 := Scalar.cmpi .ne v251 c0_i32_146
  v252

def k0_off74 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off75 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev52 : Nat :=
  let c0_i32_454 : BitVec 32 := 0#32
  let c3_i32_452 : BitVec 32 := 3#32
  let c1_i32_453 : BitVec 32 := 1#32
  let v710 : BitVec 32 := Scalar.muli c3_i32_452 c1_i32_453
  let v711 : BitVec 32 := Scalar.addi c0_i32_454 v710
  v711.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_147 : BitVec 32 := 4#32
  let v253 : BitVec 1 := Scalar.cmpi .ne v2 c4_i32_147
  let v254 : BitVec 32 := Scalar.extui v253
  let c0_i32_148 : BitVec 32 := 0#32
  let v255 : BitVec 1 := Scalar.cmpi .ne v254 c0_i32_148
  v255

def k0_off76 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off77 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev53 : Nat :=
  let c0_i32_454 : BitVec 32 := 0#32
  let c4_i32_452 : BitVec 32 := 4#32
  let c1_i32_453 : BitVec 32 := 1#32
  let v710 : BitVec 32 := Scalar.muli c4_i32_452 c1_i32_453
  let v711 : BitVec 32 := Scalar.addi c0_i32_454 v710
  v711.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_149 : BitVec 32 := 5#32
  let v256 : BitVec 1 := Scalar.cmpi .ne v2 c5_i32_149
  let v257 : BitVec 32 := Scalar.extui v256
  let c0_i32_150 : BitVec 32 := 0#32
  let v258 : BitVec 1 := Scalar.cmpi .ne v257 c0_i32_150
  v258

def k0_off78 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off79 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev54 : Nat :=
  let c0_i32_454 : BitVec 32 := 0#32
  let c5_i32_452 : BitVec 32 := 5#32
  let c1_i32_453 : BitVec 32 := 1#32
  let v710 : BitVec 32 := Scalar.muli c5_i32_452 c1_i32_453
  let v711 : BitVec 32 := Scalar.addi c0_i32_454 v710
  v711.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_151 : BitVec 32 := 6#32
  let v259 : BitVec 1 := Scalar.cmpi .ne v2 c6_i32_151
  let v260 : BitVec 32 := Scalar.extui v259
  let c0_i32_152 : BitVec 32 := 0#32
  let v261 : BitVec 1 := Scalar.cmpi .ne v260 c0_i32_152
  v261

def k0_off80 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off81 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev55 : Nat :=
  let c0_i32_454 : BitVec 32 := 0#32
  let c6_i32_452 : BitVec 32 := 6#32
  let c1_i32_453 : BitVec 32 := 1#32
  let v710 : BitVec 32 := Scalar.muli c6_i32_452 c1_i32_453
  let v711 : BitVec 32 := Scalar.addi c0_i32_454 v710
  v711.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_153 : BitVec 32 := 7#32
  let v262 : BitVec 1 := Scalar.cmpi .ne v2 c7_i32_153
  let v263 : BitVec 32 := Scalar.extui v262
  let c0_i32_154 : BitVec 32 := 0#32
  let v264 : BitVec 1 := Scalar.cmpi .ne v263 c0_i32_154
  v264

def k0_off82 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off83 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev56 : Nat :=
  let c0_i32_454 : BitVec 32 := 0#32
  let c7_i32_452 : BitVec 32 := 7#32
  let c1_i32_453 : BitVec 32 := 1#32
  let v710 : BitVec 32 := Scalar.muli c7_i32_452 c1_i32_453
  let v711 : BitVec 32 := Scalar.addi c0_i32_454 v710
  v711.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_155 : BitVec 32 := 8#32
  let v265 : BitVec 1 := Scalar.cmpi .ne v2 c8_i32_155
  let v266 : BitVec 32 := Scalar.extui v265
  let c0_i32_156 : BitVec 32 := 0#32
  let v267 : BitVec 1 := Scalar.cmpi .ne v266 c0_i32_156
  v267

def k0_off84 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off85 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev57 : Nat :=
  let c0_i32_454 : BitVec 32 := 0#32
  let c8_i32_452 : BitVec 32 := 8#32
  let c1_i32_453 : BitVec 32 := 1#32
  let v710 : BitVec 32 := Scalar.muli c8_i32_452 c1_i32_453
  let v711 : BitVec 32 := Scalar.addi c0_i32_454 v710
  v711.toNat
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_157 : BitVec 32 := 9#32
  let v268 : BitVec 1 := Scalar.cmpi .ne v2 c9_i32_157
  let v269 : BitVec 32 := Scalar.extui v268
  let c0_i32_158 : BitVec 32 := 0#32
  let v270 : BitVec 1 := Scalar.cmpi .ne v269 c0_i32_158
  v270

def k0_off86 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off87 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev58 : Nat :=
  let c0_i32_454 : BitVec 32 := 0#32
  let c9_i32_452 : BitVec 32 := 9#32
  let c1_i32_453 : BitVec 32 := 1#32
  let v710 : BitVec 32 := Scalar.muli c9_i32_452 c1_i32_453
  let v711 : BitVec 32 := Scalar.addi c0_i32_454 v710
  v711.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_159 : BitVec 32 := 10#32
  let v271 : BitVec 1 := Scalar.cmpi .ne v2 c10_i32_159
  let v272 : BitVec 32 := Scalar.extui v271
  let c0_i32_160 : BitVec 32 := 0#32
  let v273 : BitVec 1 := Scalar.cmpi .ne v272 c0_i32_160
  v273

def k0_off88 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off89 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev59 : Nat :=
  let c0_i32_454 : BitVec 32 := 0#32
  let c10_i32_452 : BitVec 32 := 10#32
  let c1_i32_453 : BitVec 32 := 1#32
  let v710 : BitVec 32 := Scalar.muli c10_i32_452 c1_i32_453
  let v711 : BitVec 32 := Scalar.addi c0_i32_454 v710
  v711.toNat
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_161 : BitVec 32 := 11#32
  let v274 : BitVec 1 := Scalar.cmpi .ne v2 c11_i32_161
  let v275 : BitVec 32 := Scalar.extui v274
  let c0_i32_162 : BitVec 32 := 0#32
  let v276 : BitVec 1 := Scalar.cmpi .ne v275 c0_i32_162
  v276

def k0_off90 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off91 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev60 : Nat :=
  let c0_i32_454 : BitVec 32 := 0#32
  let c11_i32_452 : BitVec 32 := 11#32
  let c1_i32_453 : BitVec 32 := 1#32
  let v710 : BitVec 32 := Scalar.muli c11_i32_452 c1_i32_453
  let v711 : BitVec 32 := Scalar.addi c0_i32_454 v710
  v711.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_163 : BitVec 32 := 12#32
  let v277 : BitVec 1 := Scalar.cmpi .ne v2 c12_i32_163
  let v278 : BitVec 32 := Scalar.extui v277
  let c0_i32_164 : BitVec 32 := 0#32
  let v279 : BitVec 1 := Scalar.cmpi .ne v278 c0_i32_164
  v279

def k0_off92 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off93 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev61 : Nat :=
  let c0_i32_454 : BitVec 32 := 0#32
  let c12_i32_452 : BitVec 32 := 12#32
  let c1_i32_453 : BitVec 32 := 1#32
  let v710 : BitVec 32 := Scalar.muli c12_i32_452 c1_i32_453
  let v711 : BitVec 32 := Scalar.addi c0_i32_454 v710
  v711.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_165 : BitVec 32 := 13#32
  let v280 : BitVec 1 := Scalar.cmpi .ne v2 c13_i32_165
  let v281 : BitVec 32 := Scalar.extui v280
  let c0_i32_166 : BitVec 32 := 0#32
  let v282 : BitVec 1 := Scalar.cmpi .ne v281 c0_i32_166
  v282

def k0_off94 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off95 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev62 : Nat :=
  let c0_i32_454 : BitVec 32 := 0#32
  let c13_i32_452 : BitVec 32 := 13#32
  let c1_i32_453 : BitVec 32 := 1#32
  let v710 : BitVec 32 := Scalar.muli c13_i32_452 c1_i32_453
  let v711 : BitVec 32 := Scalar.addi c0_i32_454 v710
  v711.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_167 : BitVec 32 := 14#32
  let v283 : BitVec 1 := Scalar.cmpi .ne v2 c14_i32_167
  let v284 : BitVec 32 := Scalar.extui v283
  let c0_i32_168 : BitVec 32 := 0#32
  let v285 : BitVec 1 := Scalar.cmpi .ne v284 c0_i32_168
  v285

def k0_off96 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off97 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev63 : Nat :=
  let c0_i32_454 : BitVec 32 := 0#32
  let c14_i32_452 : BitVec 32 := 14#32
  let c1_i32_453 : BitVec 32 := 1#32
  let v710 : BitVec 32 := Scalar.muli c14_i32_452 c1_i32_453
  let v711 : BitVec 32 := Scalar.addi c0_i32_454 v710
  v711.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_169 : BitVec 32 := 15#32
  let v286 : BitVec 1 := Scalar.cmpi .ne v2 c15_i32_169
  let v287 : BitVec 32 := Scalar.extui v286
  let c0_i32_170 : BitVec 32 := 0#32
  let v288 : BitVec 1 := Scalar.cmpi .ne v287 c0_i32_170
  v288

def k0_off98 (d0 : Dev nD) : Fin 2 → Nat :=
  let c0_i32_449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![0, v2.toNat]
def k0_off99 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_455 : BitVec 32 := 0#32
  let c0_i32_456 : BitVec 32 := 0#32
  ![v2.toNat, 0, 0, 0]
def k0_dev64 : Nat :=
  let c0_i32_454 : BitVec 32 := 0#32
  let c15_i32_452 : BitVec 32 := 15#32
  let c1_i32_453 : BitVec 32 := 1#32
  let v710 : BitVec 32 := Scalar.muli c15_i32_452 c1_i32_453
  let v711 : BitVec 32 := Scalar.addi c0_i32_454 v710
  v711.toNat
def k0_off100 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v366 : Index := Scalar.indexCast v2
  let c1_214 : Index := 1#32
  let c0_215 : Index := 0#32
  let c0_216 : Index := 0#32
  ![v366.toNat, 1, 0, 0]
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_217 : BitVec 32 := 0#32
  let v370 : BitVec 1 := Scalar.cmpi .ne v2 c0_i32_217
  let v371 : BitVec 32 := Scalar.extui v370
  let c0_i32_218 : BitVec 32 := 0#32
  let v372 : BitVec 1 := Scalar.cmpi .ne v371 c0_i32_218
  v372

def k0_off101 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off102 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev65 : Nat :=
  let c0_i32_454 : BitVec 32 := 0#32
  let c0_i32_452 : BitVec 32 := 0#32
  let c1_i32_453 : BitVec 32 := 1#32
  let v710 : BitVec 32 := Scalar.muli c0_i32_452 c1_i32_453
  let v711 : BitVec 32 := Scalar.addi c0_i32_454 v710
  v711.toNat
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_219 : BitVec 32 := 1#32
  let v373 : BitVec 1 := Scalar.cmpi .ne v2 c1_i32_219
  let v374 : BitVec 32 := Scalar.extui v373
  let c0_i32_220 : BitVec 32 := 0#32
  let v375 : BitVec 1 := Scalar.cmpi .ne v374 c0_i32_220
  v375

def k0_off103 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off104 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev66 : Nat :=
  let c0_i32_454 : BitVec 32 := 0#32
  let c1_i32_452 : BitVec 32 := 1#32
  let c1_i32_453 : BitVec 32 := 1#32
  let v710 : BitVec 32 := Scalar.muli c1_i32_452 c1_i32_453
  let v711 : BitVec 32 := Scalar.addi c0_i32_454 v710
  v711.toNat
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_221 : BitVec 32 := 2#32
  let v376 : BitVec 1 := Scalar.cmpi .ne v2 c2_i32_221
  let v377 : BitVec 32 := Scalar.extui v376
  let c0_i32_222 : BitVec 32 := 0#32
  let v378 : BitVec 1 := Scalar.cmpi .ne v377 c0_i32_222
  v378

def k0_off105 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off106 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev67 : Nat :=
  let c0_i32_454 : BitVec 32 := 0#32
  let c2_i32_452 : BitVec 32 := 2#32
  let c1_i32_453 : BitVec 32 := 1#32
  let v710 : BitVec 32 := Scalar.muli c2_i32_452 c1_i32_453
  let v711 : BitVec 32 := Scalar.addi c0_i32_454 v710
  v711.toNat
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_223 : BitVec 32 := 3#32
  let v379 : BitVec 1 := Scalar.cmpi .ne v2 c3_i32_223
  let v380 : BitVec 32 := Scalar.extui v379
  let c0_i32_224 : BitVec 32 := 0#32
  let v381 : BitVec 1 := Scalar.cmpi .ne v380 c0_i32_224
  v381

def k0_off107 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off108 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev68 : Nat :=
  let c0_i32_454 : BitVec 32 := 0#32
  let c3_i32_452 : BitVec 32 := 3#32
  let c1_i32_453 : BitVec 32 := 1#32
  let v710 : BitVec 32 := Scalar.muli c3_i32_452 c1_i32_453
  let v711 : BitVec 32 := Scalar.addi c0_i32_454 v710
  v711.toNat
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_225 : BitVec 32 := 4#32
  let v382 : BitVec 1 := Scalar.cmpi .ne v2 c4_i32_225
  let v383 : BitVec 32 := Scalar.extui v382
  let c0_i32_226 : BitVec 32 := 0#32
  let v384 : BitVec 1 := Scalar.cmpi .ne v383 c0_i32_226
  v384

def k0_off109 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off110 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev69 : Nat :=
  let c0_i32_454 : BitVec 32 := 0#32
  let c4_i32_452 : BitVec 32 := 4#32
  let c1_i32_453 : BitVec 32 := 1#32
  let v710 : BitVec 32 := Scalar.muli c4_i32_452 c1_i32_453
  let v711 : BitVec 32 := Scalar.addi c0_i32_454 v710
  v711.toNat
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_227 : BitVec 32 := 5#32
  let v385 : BitVec 1 := Scalar.cmpi .ne v2 c5_i32_227
  let v386 : BitVec 32 := Scalar.extui v385
  let c0_i32_228 : BitVec 32 := 0#32
  let v387 : BitVec 1 := Scalar.cmpi .ne v386 c0_i32_228
  v387

def k0_off111 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off112 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev70 : Nat :=
  let c0_i32_454 : BitVec 32 := 0#32
  let c5_i32_452 : BitVec 32 := 5#32
  let c1_i32_453 : BitVec 32 := 1#32
  let v710 : BitVec 32 := Scalar.muli c5_i32_452 c1_i32_453
  let v711 : BitVec 32 := Scalar.addi c0_i32_454 v710
  v711.toNat
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_229 : BitVec 32 := 6#32
  let v388 : BitVec 1 := Scalar.cmpi .ne v2 c6_i32_229
  let v389 : BitVec 32 := Scalar.extui v388
  let c0_i32_230 : BitVec 32 := 0#32
  let v390 : BitVec 1 := Scalar.cmpi .ne v389 c0_i32_230
  v390

def k0_off113 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off114 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev71 : Nat :=
  let c0_i32_454 : BitVec 32 := 0#32
  let c6_i32_452 : BitVec 32 := 6#32
  let c1_i32_453 : BitVec 32 := 1#32
  let v710 : BitVec 32 := Scalar.muli c6_i32_452 c1_i32_453
  let v711 : BitVec 32 := Scalar.addi c0_i32_454 v710
  v711.toNat
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_231 : BitVec 32 := 7#32
  let v391 : BitVec 1 := Scalar.cmpi .ne v2 c7_i32_231
  let v392 : BitVec 32 := Scalar.extui v391
  let c0_i32_232 : BitVec 32 := 0#32
  let v393 : BitVec 1 := Scalar.cmpi .ne v392 c0_i32_232
  v393

def k0_off115 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off116 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev72 : Nat :=
  let c0_i32_454 : BitVec 32 := 0#32
  let c7_i32_452 : BitVec 32 := 7#32
  let c1_i32_453 : BitVec 32 := 1#32
  let v710 : BitVec 32 := Scalar.muli c7_i32_452 c1_i32_453
  let v711 : BitVec 32 := Scalar.addi c0_i32_454 v710
  v711.toNat
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_233 : BitVec 32 := 8#32
  let v394 : BitVec 1 := Scalar.cmpi .ne v2 c8_i32_233
  let v395 : BitVec 32 := Scalar.extui v394
  let c0_i32_234 : BitVec 32 := 0#32
  let v396 : BitVec 1 := Scalar.cmpi .ne v395 c0_i32_234
  v396

def k0_off117 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off118 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev73 : Nat :=
  let c0_i32_454 : BitVec 32 := 0#32
  let c8_i32_452 : BitVec 32 := 8#32
  let c1_i32_453 : BitVec 32 := 1#32
  let v710 : BitVec 32 := Scalar.muli c8_i32_452 c1_i32_453
  let v711 : BitVec 32 := Scalar.addi c0_i32_454 v710
  v711.toNat
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_235 : BitVec 32 := 9#32
  let v397 : BitVec 1 := Scalar.cmpi .ne v2 c9_i32_235
  let v398 : BitVec 32 := Scalar.extui v397
  let c0_i32_236 : BitVec 32 := 0#32
  let v399 : BitVec 1 := Scalar.cmpi .ne v398 c0_i32_236
  v399

def k0_off119 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off120 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev74 : Nat :=
  let c0_i32_454 : BitVec 32 := 0#32
  let c9_i32_452 : BitVec 32 := 9#32
  let c1_i32_453 : BitVec 32 := 1#32
  let v710 : BitVec 32 := Scalar.muli c9_i32_452 c1_i32_453
  let v711 : BitVec 32 := Scalar.addi c0_i32_454 v710
  v711.toNat
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_237 : BitVec 32 := 10#32
  let v400 : BitVec 1 := Scalar.cmpi .ne v2 c10_i32_237
  let v401 : BitVec 32 := Scalar.extui v400
  let c0_i32_238 : BitVec 32 := 0#32
  let v402 : BitVec 1 := Scalar.cmpi .ne v401 c0_i32_238
  v402

def k0_off121 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off122 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev75 : Nat :=
  let c0_i32_454 : BitVec 32 := 0#32
  let c10_i32_452 : BitVec 32 := 10#32
  let c1_i32_453 : BitVec 32 := 1#32
  let v710 : BitVec 32 := Scalar.muli c10_i32_452 c1_i32_453
  let v711 : BitVec 32 := Scalar.addi c0_i32_454 v710
  v711.toNat
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_239 : BitVec 32 := 11#32
  let v403 : BitVec 1 := Scalar.cmpi .ne v2 c11_i32_239
  let v404 : BitVec 32 := Scalar.extui v403
  let c0_i32_240 : BitVec 32 := 0#32
  let v405 : BitVec 1 := Scalar.cmpi .ne v404 c0_i32_240
  v405

def k0_off123 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off124 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev76 : Nat :=
  let c0_i32_454 : BitVec 32 := 0#32
  let c11_i32_452 : BitVec 32 := 11#32
  let c1_i32_453 : BitVec 32 := 1#32
  let v710 : BitVec 32 := Scalar.muli c11_i32_452 c1_i32_453
  let v711 : BitVec 32 := Scalar.addi c0_i32_454 v710
  v711.toNat
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_241 : BitVec 32 := 12#32
  let v406 : BitVec 1 := Scalar.cmpi .ne v2 c12_i32_241
  let v407 : BitVec 32 := Scalar.extui v406
  let c0_i32_242 : BitVec 32 := 0#32
  let v408 : BitVec 1 := Scalar.cmpi .ne v407 c0_i32_242
  v408

def k0_off125 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off126 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev77 : Nat :=
  let c0_i32_454 : BitVec 32 := 0#32
  let c12_i32_452 : BitVec 32 := 12#32
  let c1_i32_453 : BitVec 32 := 1#32
  let v710 : BitVec 32 := Scalar.muli c12_i32_452 c1_i32_453
  let v711 : BitVec 32 := Scalar.addi c0_i32_454 v710
  v711.toNat
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_243 : BitVec 32 := 13#32
  let v409 : BitVec 1 := Scalar.cmpi .ne v2 c13_i32_243
  let v410 : BitVec 32 := Scalar.extui v409
  let c0_i32_244 : BitVec 32 := 0#32
  let v411 : BitVec 1 := Scalar.cmpi .ne v410 c0_i32_244
  v411

def k0_off127 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off128 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev78 : Nat :=
  let c0_i32_454 : BitVec 32 := 0#32
  let c13_i32_452 : BitVec 32 := 13#32
  let c1_i32_453 : BitVec 32 := 1#32
  let v710 : BitVec 32 := Scalar.muli c13_i32_452 c1_i32_453
  let v711 : BitVec 32 := Scalar.addi c0_i32_454 v710
  v711.toNat
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_245 : BitVec 32 := 14#32
  let v412 : BitVec 1 := Scalar.cmpi .ne v2 c14_i32_245
  let v413 : BitVec 32 := Scalar.extui v412
  let c0_i32_246 : BitVec 32 := 0#32
  let v414 : BitVec 1 := Scalar.cmpi .ne v413 c0_i32_246
  v414

def k0_off129 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off130 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev79 : Nat :=
  let c0_i32_454 : BitVec 32 := 0#32
  let c14_i32_452 : BitVec 32 := 14#32
  let c1_i32_453 : BitVec 32 := 1#32
  let v710 : BitVec 32 := Scalar.muli c14_i32_452 c1_i32_453
  let v711 : BitVec 32 := Scalar.addi c0_i32_454 v710
  v711.toNat
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_247 : BitVec 32 := 15#32
  let v415 : BitVec 1 := Scalar.cmpi .ne v2 c15_i32_247
  let v416 : BitVec 32 := Scalar.extui v415
  let c0_i32_248 : BitVec 32 := 0#32
  let v417 : BitVec 1 := Scalar.cmpi .ne v416 c0_i32_248
  v417

def k0_off131 (d0 : Dev nD) : Fin 2 → Nat :=
  let c1_i32_449 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![1, v2.toNat]
def k0_off132 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_455 : BitVec 32 := 0#32
  let c0_i32_456 : BitVec 32 := 0#32
  ![v2.toNat, 1, 0, 0]
def k0_dev80 : Nat :=
  let c0_i32_454 : BitVec 32 := 0#32
  let c15_i32_452 : BitVec 32 := 15#32
  let c1_i32_453 : BitVec 32 := 1#32
  let v710 : BitVec 32 := Scalar.muli c15_i32_452 c1_i32_453
  let v711 : BitVec 32 := Scalar.addi c0_i32_454 v710
  v711.toNat
def k0_cond113 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_249 : BitVec 32 := 0#32
  let v418 : BitVec 1 := Scalar.cmpi .ne v2 c0_i32_249
  let v419 : BitVec 32 := Scalar.extui v418
  let c0_i32_250 : BitVec 32 := 0#32
  let v420 : BitVec 1 := Scalar.cmpi .ne v419 c0_i32_250
  v420

def k0_off133 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond114 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_251 : BitVec 32 := 1#32
  let v421 : BitVec 1 := Scalar.cmpi .ne v2 c1_i32_251
  let v422 : BitVec 32 := Scalar.extui v421
  let c0_i32_252 : BitVec 32 := 0#32
  let v423 : BitVec 1 := Scalar.cmpi .ne v422 c0_i32_252
  v423

def k0_off134 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond115 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_253 : BitVec 32 := 2#32
  let v424 : BitVec 1 := Scalar.cmpi .ne v2 c2_i32_253
  let v425 : BitVec 32 := Scalar.extui v424
  let c0_i32_254 : BitVec 32 := 0#32
  let v426 : BitVec 1 := Scalar.cmpi .ne v425 c0_i32_254
  v426

def k0_off135 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond116 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_255 : BitVec 32 := 3#32
  let v427 : BitVec 1 := Scalar.cmpi .ne v2 c3_i32_255
  let v428 : BitVec 32 := Scalar.extui v427
  let c0_i32_256 : BitVec 32 := 0#32
  let v429 : BitVec 1 := Scalar.cmpi .ne v428 c0_i32_256
  v429

def k0_off136 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond117 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_257 : BitVec 32 := 4#32
  let v430 : BitVec 1 := Scalar.cmpi .ne v2 c4_i32_257
  let v431 : BitVec 32 := Scalar.extui v430
  let c0_i32_258 : BitVec 32 := 0#32
  let v432 : BitVec 1 := Scalar.cmpi .ne v431 c0_i32_258
  v432

def k0_off137 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond118 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_259 : BitVec 32 := 5#32
  let v433 : BitVec 1 := Scalar.cmpi .ne v2 c5_i32_259
  let v434 : BitVec 32 := Scalar.extui v433
  let c0_i32_260 : BitVec 32 := 0#32
  let v435 : BitVec 1 := Scalar.cmpi .ne v434 c0_i32_260
  v435

def k0_off138 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond119 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_261 : BitVec 32 := 6#32
  let v436 : BitVec 1 := Scalar.cmpi .ne v2 c6_i32_261
  let v437 : BitVec 32 := Scalar.extui v436
  let c0_i32_262 : BitVec 32 := 0#32
  let v438 : BitVec 1 := Scalar.cmpi .ne v437 c0_i32_262
  v438

def k0_off139 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond120 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_263 : BitVec 32 := 7#32
  let v439 : BitVec 1 := Scalar.cmpi .ne v2 c7_i32_263
  let v440 : BitVec 32 := Scalar.extui v439
  let c0_i32_264 : BitVec 32 := 0#32
  let v441 : BitVec 1 := Scalar.cmpi .ne v440 c0_i32_264
  v441

def k0_off140 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond121 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_265 : BitVec 32 := 8#32
  let v442 : BitVec 1 := Scalar.cmpi .ne v2 c8_i32_265
  let v443 : BitVec 32 := Scalar.extui v442
  let c0_i32_266 : BitVec 32 := 0#32
  let v444 : BitVec 1 := Scalar.cmpi .ne v443 c0_i32_266
  v444

def k0_off141 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond122 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_267 : BitVec 32 := 9#32
  let v445 : BitVec 1 := Scalar.cmpi .ne v2 c9_i32_267
  let v446 : BitVec 32 := Scalar.extui v445
  let c0_i32_268 : BitVec 32 := 0#32
  let v447 : BitVec 1 := Scalar.cmpi .ne v446 c0_i32_268
  v447

def k0_off142 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond123 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_269 : BitVec 32 := 10#32
  let v448 : BitVec 1 := Scalar.cmpi .ne v2 c10_i32_269
  let v449 : BitVec 32 := Scalar.extui v448
  let c0_i32_270 : BitVec 32 := 0#32
  let v450 : BitVec 1 := Scalar.cmpi .ne v449 c0_i32_270
  v450

def k0_off143 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond124 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_271 : BitVec 32 := 11#32
  let v451 : BitVec 1 := Scalar.cmpi .ne v2 c11_i32_271
  let v452 : BitVec 32 := Scalar.extui v451
  let c0_i32_272 : BitVec 32 := 0#32
  let v453 : BitVec 1 := Scalar.cmpi .ne v452 c0_i32_272
  v453

def k0_off144 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond125 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_273 : BitVec 32 := 12#32
  let v454 : BitVec 1 := Scalar.cmpi .ne v2 c12_i32_273
  let v455 : BitVec 32 := Scalar.extui v454
  let c0_i32_274 : BitVec 32 := 0#32
  let v456 : BitVec 1 := Scalar.cmpi .ne v455 c0_i32_274
  v456

def k0_off145 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond126 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_275 : BitVec 32 := 13#32
  let v457 : BitVec 1 := Scalar.cmpi .ne v2 c13_i32_275
  let v458 : BitVec 32 := Scalar.extui v457
  let c0_i32_276 : BitVec 32 := 0#32
  let v459 : BitVec 1 := Scalar.cmpi .ne v458 c0_i32_276
  v459

def k0_off146 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond127 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_277 : BitVec 32 := 14#32
  let v460 : BitVec 1 := Scalar.cmpi .ne v2 c14_i32_277
  let v461 : BitVec 32 := Scalar.extui v460
  let c0_i32_278 : BitVec 32 := 0#32
  let v462 : BitVec 1 := Scalar.cmpi .ne v461 c0_i32_278
  v462

def k0_off147 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond128 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_279 : BitVec 32 := 15#32
  let v463 : BitVec 1 := Scalar.cmpi .ne v2 c15_i32_279
  let v464 : BitVec 32 := Scalar.extui v463
  let c0_i32_280 : BitVec 32 := 0#32
  let v465 : BitVec 1 := Scalar.cmpi .ne v464 c0_i32_280
  v465

def k0_off148 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_447 : BitVec 32 := 0#32
  let c0_i32_457 : BitVec 32 := 0#32
  let c0_i32_458 : BitVec 32 := 0#32
  ![v2.toNat, 0, 0, 0]
def k0_cond129 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_281 : BitVec 32 := 0#32
  let v466 : BitVec 1 := Scalar.cmpi .ne v2 c0_i32_281
  let v467 : BitVec 32 := Scalar.extui v466
  let c0_i32_282 : BitVec 32 := 0#32
  let v468 : BitVec 1 := Scalar.cmpi .ne v467 c0_i32_282
  v468

def k0_off149 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond130 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_283 : BitVec 32 := 1#32
  let v469 : BitVec 1 := Scalar.cmpi .ne v2 c1_i32_283
  let v470 : BitVec 32 := Scalar.extui v469
  let c0_i32_284 : BitVec 32 := 0#32
  let v471 : BitVec 1 := Scalar.cmpi .ne v470 c0_i32_284
  v471

def k0_off150 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond131 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_285 : BitVec 32 := 2#32
  let v472 : BitVec 1 := Scalar.cmpi .ne v2 c2_i32_285
  let v473 : BitVec 32 := Scalar.extui v472
  let c0_i32_286 : BitVec 32 := 0#32
  let v474 : BitVec 1 := Scalar.cmpi .ne v473 c0_i32_286
  v474

def k0_off151 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond132 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_287 : BitVec 32 := 3#32
  let v475 : BitVec 1 := Scalar.cmpi .ne v2 c3_i32_287
  let v476 : BitVec 32 := Scalar.extui v475
  let c0_i32_288 : BitVec 32 := 0#32
  let v477 : BitVec 1 := Scalar.cmpi .ne v476 c0_i32_288
  v477

def k0_off152 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_289 : BitVec 32 := 4#32
  let v478 : BitVec 1 := Scalar.cmpi .ne v2 c4_i32_289
  let v479 : BitVec 32 := Scalar.extui v478
  let c0_i32_290 : BitVec 32 := 0#32
  let v480 : BitVec 1 := Scalar.cmpi .ne v479 c0_i32_290
  v480

def k0_off153 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_291 : BitVec 32 := 5#32
  let v481 : BitVec 1 := Scalar.cmpi .ne v2 c5_i32_291
  let v482 : BitVec 32 := Scalar.extui v481
  let c0_i32_292 : BitVec 32 := 0#32
  let v483 : BitVec 1 := Scalar.cmpi .ne v482 c0_i32_292
  v483

def k0_off154 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond135 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_293 : BitVec 32 := 6#32
  let v484 : BitVec 1 := Scalar.cmpi .ne v2 c6_i32_293
  let v485 : BitVec 32 := Scalar.extui v484
  let c0_i32_294 : BitVec 32 := 0#32
  let v486 : BitVec 1 := Scalar.cmpi .ne v485 c0_i32_294
  v486

def k0_off155 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_295 : BitVec 32 := 7#32
  let v487 : BitVec 1 := Scalar.cmpi .ne v2 c7_i32_295
  let v488 : BitVec 32 := Scalar.extui v487
  let c0_i32_296 : BitVec 32 := 0#32
  let v489 : BitVec 1 := Scalar.cmpi .ne v488 c0_i32_296
  v489

def k0_off156 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond137 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_297 : BitVec 32 := 8#32
  let v490 : BitVec 1 := Scalar.cmpi .ne v2 c8_i32_297
  let v491 : BitVec 32 := Scalar.extui v490
  let c0_i32_298 : BitVec 32 := 0#32
  let v492 : BitVec 1 := Scalar.cmpi .ne v491 c0_i32_298
  v492

def k0_off157 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond138 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_299 : BitVec 32 := 9#32
  let v493 : BitVec 1 := Scalar.cmpi .ne v2 c9_i32_299
  let v494 : BitVec 32 := Scalar.extui v493
  let c0_i32_300 : BitVec 32 := 0#32
  let v495 : BitVec 1 := Scalar.cmpi .ne v494 c0_i32_300
  v495

def k0_off158 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond139 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_301 : BitVec 32 := 10#32
  let v496 : BitVec 1 := Scalar.cmpi .ne v2 c10_i32_301
  let v497 : BitVec 32 := Scalar.extui v496
  let c0_i32_302 : BitVec 32 := 0#32
  let v498 : BitVec 1 := Scalar.cmpi .ne v497 c0_i32_302
  v498

def k0_off159 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond140 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_303 : BitVec 32 := 11#32
  let v499 : BitVec 1 := Scalar.cmpi .ne v2 c11_i32_303
  let v500 : BitVec 32 := Scalar.extui v499
  let c0_i32_304 : BitVec 32 := 0#32
  let v501 : BitVec 1 := Scalar.cmpi .ne v500 c0_i32_304
  v501

def k0_off160 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond141 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_305 : BitVec 32 := 12#32
  let v502 : BitVec 1 := Scalar.cmpi .ne v2 c12_i32_305
  let v503 : BitVec 32 := Scalar.extui v502
  let c0_i32_306 : BitVec 32 := 0#32
  let v504 : BitVec 1 := Scalar.cmpi .ne v503 c0_i32_306
  v504

def k0_off161 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_307 : BitVec 32 := 13#32
  let v505 : BitVec 1 := Scalar.cmpi .ne v2 c13_i32_307
  let v506 : BitVec 32 := Scalar.extui v505
  let c0_i32_308 : BitVec 32 := 0#32
  let v507 : BitVec 1 := Scalar.cmpi .ne v506 c0_i32_308
  v507

def k0_off162 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond143 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_309 : BitVec 32 := 14#32
  let v508 : BitVec 1 := Scalar.cmpi .ne v2 c14_i32_309
  let v509 : BitVec 32 := Scalar.extui v508
  let c0_i32_310 : BitVec 32 := 0#32
  let v510 : BitVec 1 := Scalar.cmpi .ne v509 c0_i32_310
  v510

def k0_off163 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_311 : BitVec 32 := 15#32
  let v511 : BitVec 1 := Scalar.cmpi .ne v2 c15_i32_311
  let v512 : BitVec 32 := Scalar.extui v511
  let c0_i32_312 : BitVec 32 := 0#32
  let v513 : BitVec 1 := Scalar.cmpi .ne v512 c0_i32_312
  v513

def k0_off164 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_447 : BitVec 32 := 1#32
  let c0_i32_457 : BitVec 32 := 0#32
  let c0_i32_458 : BitVec 32 := 0#32
  ![v2.toNat, 1, 0, 0]
def k0_cond177 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_377 : BitVec 32 := 0#32
  let v610 : BitVec 1 := Scalar.cmpi .ne v2 c0_i32_377
  let v611 : BitVec 32 := Scalar.extui v610
  let c0_i32_378 : BitVec 32 := 0#32
  let v612 : BitVec 1 := Scalar.cmpi .ne v611 c0_i32_378
  v612

def k0_off165 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond178 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_379 : BitVec 32 := 1#32
  let v613 : BitVec 1 := Scalar.cmpi .ne v2 c1_i32_379
  let v614 : BitVec 32 := Scalar.extui v613
  let c0_i32_380 : BitVec 32 := 0#32
  let v615 : BitVec 1 := Scalar.cmpi .ne v614 c0_i32_380
  v615

def k0_off166 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond179 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_381 : BitVec 32 := 2#32
  let v616 : BitVec 1 := Scalar.cmpi .ne v2 c2_i32_381
  let v617 : BitVec 32 := Scalar.extui v616
  let c0_i32_382 : BitVec 32 := 0#32
  let v618 : BitVec 1 := Scalar.cmpi .ne v617 c0_i32_382
  v618

def k0_off167 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond180 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_383 : BitVec 32 := 3#32
  let v619 : BitVec 1 := Scalar.cmpi .ne v2 c3_i32_383
  let v620 : BitVec 32 := Scalar.extui v619
  let c0_i32_384 : BitVec 32 := 0#32
  let v621 : BitVec 1 := Scalar.cmpi .ne v620 c0_i32_384
  v621

def k0_off168 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond181 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_385 : BitVec 32 := 4#32
  let v622 : BitVec 1 := Scalar.cmpi .ne v2 c4_i32_385
  let v623 : BitVec 32 := Scalar.extui v622
  let c0_i32_386 : BitVec 32 := 0#32
  let v624 : BitVec 1 := Scalar.cmpi .ne v623 c0_i32_386
  v624

def k0_off169 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond182 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_387 : BitVec 32 := 5#32
  let v625 : BitVec 1 := Scalar.cmpi .ne v2 c5_i32_387
  let v626 : BitVec 32 := Scalar.extui v625
  let c0_i32_388 : BitVec 32 := 0#32
  let v627 : BitVec 1 := Scalar.cmpi .ne v626 c0_i32_388
  v627

def k0_off170 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond183 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_389 : BitVec 32 := 6#32
  let v628 : BitVec 1 := Scalar.cmpi .ne v2 c6_i32_389
  let v629 : BitVec 32 := Scalar.extui v628
  let c0_i32_390 : BitVec 32 := 0#32
  let v630 : BitVec 1 := Scalar.cmpi .ne v629 c0_i32_390
  v630

def k0_off171 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond184 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_391 : BitVec 32 := 7#32
  let v631 : BitVec 1 := Scalar.cmpi .ne v2 c7_i32_391
  let v632 : BitVec 32 := Scalar.extui v631
  let c0_i32_392 : BitVec 32 := 0#32
  let v633 : BitVec 1 := Scalar.cmpi .ne v632 c0_i32_392
  v633

def k0_off172 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond185 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_393 : BitVec 32 := 8#32
  let v634 : BitVec 1 := Scalar.cmpi .ne v2 c8_i32_393
  let v635 : BitVec 32 := Scalar.extui v634
  let c0_i32_394 : BitVec 32 := 0#32
  let v636 : BitVec 1 := Scalar.cmpi .ne v635 c0_i32_394
  v636

def k0_off173 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond186 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_395 : BitVec 32 := 9#32
  let v637 : BitVec 1 := Scalar.cmpi .ne v2 c9_i32_395
  let v638 : BitVec 32 := Scalar.extui v637
  let c0_i32_396 : BitVec 32 := 0#32
  let v639 : BitVec 1 := Scalar.cmpi .ne v638 c0_i32_396
  v639

def k0_off174 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond187 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_397 : BitVec 32 := 10#32
  let v640 : BitVec 1 := Scalar.cmpi .ne v2 c10_i32_397
  let v641 : BitVec 32 := Scalar.extui v640
  let c0_i32_398 : BitVec 32 := 0#32
  let v642 : BitVec 1 := Scalar.cmpi .ne v641 c0_i32_398
  v642

def k0_off175 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond188 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_399 : BitVec 32 := 11#32
  let v643 : BitVec 1 := Scalar.cmpi .ne v2 c11_i32_399
  let v644 : BitVec 32 := Scalar.extui v643
  let c0_i32_400 : BitVec 32 := 0#32
  let v645 : BitVec 1 := Scalar.cmpi .ne v644 c0_i32_400
  v645

def k0_off176 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond189 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_401 : BitVec 32 := 12#32
  let v646 : BitVec 1 := Scalar.cmpi .ne v2 c12_i32_401
  let v647 : BitVec 32 := Scalar.extui v646
  let c0_i32_402 : BitVec 32 := 0#32
  let v648 : BitVec 1 := Scalar.cmpi .ne v647 c0_i32_402
  v648

def k0_off177 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond190 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_403 : BitVec 32 := 13#32
  let v649 : BitVec 1 := Scalar.cmpi .ne v2 c13_i32_403
  let v650 : BitVec 32 := Scalar.extui v649
  let c0_i32_404 : BitVec 32 := 0#32
  let v651 : BitVec 1 := Scalar.cmpi .ne v650 c0_i32_404
  v651

def k0_off178 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond191 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_405 : BitVec 32 := 14#32
  let v652 : BitVec 1 := Scalar.cmpi .ne v2 c14_i32_405
  let v653 : BitVec 32 := Scalar.extui v652
  let c0_i32_406 : BitVec 32 := 0#32
  let v654 : BitVec 1 := Scalar.cmpi .ne v653 c0_i32_406
  v654

def k0_off179 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond192 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_407 : BitVec 32 := 15#32
  let v655 : BitVec 1 := Scalar.cmpi .ne v2 c15_i32_407
  let v656 : BitVec 32 := Scalar.extui v655
  let c0_i32_408 : BitVec 32 := 0#32
  let v657 : BitVec 1 := Scalar.cmpi .ne v656 c0_i32_408
  v657

def k0_off180 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_448 : BitVec 32 := 0#32
  let c0_i32_454 : BitVec 32 := 0#32
  let c0_i32_455 : BitVec 32 := 0#32
  ![v2.toNat, 0, 0, 0]
def k0_cond193 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_409 : BitVec 32 := 0#32
  let v658 : BitVec 1 := Scalar.cmpi .ne v2 c0_i32_409
  let v659 : BitVec 32 := Scalar.extui v658
  let c0_i32_410 : BitVec 32 := 0#32
  let v660 : BitVec 1 := Scalar.cmpi .ne v659 c0_i32_410
  v660

def k0_off181 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond194 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_411 : BitVec 32 := 1#32
  let v661 : BitVec 1 := Scalar.cmpi .ne v2 c1_i32_411
  let v662 : BitVec 32 := Scalar.extui v661
  let c0_i32_412 : BitVec 32 := 0#32
  let v663 : BitVec 1 := Scalar.cmpi .ne v662 c0_i32_412
  v663

def k0_off182 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond195 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_413 : BitVec 32 := 2#32
  let v664 : BitVec 1 := Scalar.cmpi .ne v2 c2_i32_413
  let v665 : BitVec 32 := Scalar.extui v664
  let c0_i32_414 : BitVec 32 := 0#32
  let v666 : BitVec 1 := Scalar.cmpi .ne v665 c0_i32_414
  v666

def k0_off183 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond196 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_415 : BitVec 32 := 3#32
  let v667 : BitVec 1 := Scalar.cmpi .ne v2 c3_i32_415
  let v668 : BitVec 32 := Scalar.extui v667
  let c0_i32_416 : BitVec 32 := 0#32
  let v669 : BitVec 1 := Scalar.cmpi .ne v668 c0_i32_416
  v669

def k0_off184 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond197 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_417 : BitVec 32 := 4#32
  let v670 : BitVec 1 := Scalar.cmpi .ne v2 c4_i32_417
  let v671 : BitVec 32 := Scalar.extui v670
  let c0_i32_418 : BitVec 32 := 0#32
  let v672 : BitVec 1 := Scalar.cmpi .ne v671 c0_i32_418
  v672

def k0_off185 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond198 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_419 : BitVec 32 := 5#32
  let v673 : BitVec 1 := Scalar.cmpi .ne v2 c5_i32_419
  let v674 : BitVec 32 := Scalar.extui v673
  let c0_i32_420 : BitVec 32 := 0#32
  let v675 : BitVec 1 := Scalar.cmpi .ne v674 c0_i32_420
  v675

def k0_off186 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond199 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_421 : BitVec 32 := 6#32
  let v676 : BitVec 1 := Scalar.cmpi .ne v2 c6_i32_421
  let v677 : BitVec 32 := Scalar.extui v676
  let c0_i32_422 : BitVec 32 := 0#32
  let v678 : BitVec 1 := Scalar.cmpi .ne v677 c0_i32_422
  v678

def k0_off187 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond200 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_423 : BitVec 32 := 7#32
  let v679 : BitVec 1 := Scalar.cmpi .ne v2 c7_i32_423
  let v680 : BitVec 32 := Scalar.extui v679
  let c0_i32_424 : BitVec 32 := 0#32
  let v681 : BitVec 1 := Scalar.cmpi .ne v680 c0_i32_424
  v681

def k0_off188 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond201 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_425 : BitVec 32 := 8#32
  let v682 : BitVec 1 := Scalar.cmpi .ne v2 c8_i32_425
  let v683 : BitVec 32 := Scalar.extui v682
  let c0_i32_426 : BitVec 32 := 0#32
  let v684 : BitVec 1 := Scalar.cmpi .ne v683 c0_i32_426
  v684

def k0_off189 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond202 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_427 : BitVec 32 := 9#32
  let v685 : BitVec 1 := Scalar.cmpi .ne v2 c9_i32_427
  let v686 : BitVec 32 := Scalar.extui v685
  let c0_i32_428 : BitVec 32 := 0#32
  let v687 : BitVec 1 := Scalar.cmpi .ne v686 c0_i32_428
  v687

def k0_off190 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond203 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_429 : BitVec 32 := 10#32
  let v688 : BitVec 1 := Scalar.cmpi .ne v2 c10_i32_429
  let v689 : BitVec 32 := Scalar.extui v688
  let c0_i32_430 : BitVec 32 := 0#32
  let v690 : BitVec 1 := Scalar.cmpi .ne v689 c0_i32_430
  v690

def k0_off191 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond204 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_431 : BitVec 32 := 11#32
  let v691 : BitVec 1 := Scalar.cmpi .ne v2 c11_i32_431
  let v692 : BitVec 32 := Scalar.extui v691
  let c0_i32_432 : BitVec 32 := 0#32
  let v693 : BitVec 1 := Scalar.cmpi .ne v692 c0_i32_432
  v693

def k0_off192 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond205 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_433 : BitVec 32 := 12#32
  let v694 : BitVec 1 := Scalar.cmpi .ne v2 c12_i32_433
  let v695 : BitVec 32 := Scalar.extui v694
  let c0_i32_434 : BitVec 32 := 0#32
  let v696 : BitVec 1 := Scalar.cmpi .ne v695 c0_i32_434
  v696

def k0_off193 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond206 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_435 : BitVec 32 := 13#32
  let v697 : BitVec 1 := Scalar.cmpi .ne v2 c13_i32_435
  let v698 : BitVec 32 := Scalar.extui v697
  let c0_i32_436 : BitVec 32 := 0#32
  let v699 : BitVec 1 := Scalar.cmpi .ne v698 c0_i32_436
  v699

def k0_off194 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond207 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_437 : BitVec 32 := 14#32
  let v700 : BitVec 1 := Scalar.cmpi .ne v2 c14_i32_437
  let v701 : BitVec 32 := Scalar.extui v700
  let c0_i32_438 : BitVec 32 := 0#32
  let v702 : BitVec 1 := Scalar.cmpi .ne v701 c0_i32_438
  v702

def k0_off195 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
def k0_cond208 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_439 : BitVec 32 := 15#32
  let v703 : BitVec 1 := Scalar.cmpi .ne v2 c15_i32_439
  let v704 : BitVec 32 := Scalar.extui v703
  let c0_i32_440 : BitVec 32 := 0#32
  let v705 : BitVec 1 := Scalar.cmpi .ne v704 c0_i32_440
  v705

def k0_off196 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_448 : BitVec 32 := 1#32
  let c0_i32_454 : BitVec 32 := 0#32
  let c0_i32_455 : BitVec 32 := 0#32
  ![v2.toNat, 1, 0, 0]
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x512x512 : Shape := ⟨3, ![16, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 25
  | .vmem => 0
  | .smem => 0
  | _ => 0

abbrev bufTy : (tb : Table) → Fin (tcTables nBuf tb) → BufTy
  | .hbm, ⟨0, _⟩ => ⟨S16x512x512, .bf16⟩
  | .hbm, ⟨1, _⟩ => ⟨S512x512, .bf16⟩
  | .hbm, ⟨2, _⟩ => ⟨S512, .bf16⟩
  | .hbm, ⟨3, _⟩ => ⟨S16x512x512, .f32⟩
  | .hbm, ⟨4, _⟩ => ⟨S512x512, .f32⟩
  | .hbm, ⟨5, _⟩ => ⟨S512, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x512, .f32⟩
  | .hbm, ⟨21, _⟩ => ⟨S512x512, .f32⟩
  | .hbm, ⟨22, _⟩ => ⟨S1x512, .f32⟩
  | .hbm, ⟨23, _⟩ => ⟨S512x512, .f32⟩
  | .hbm, ⟨24, _⟩ => ⟨S512x512, .f32⟩
  | _, _ => ⟨S16x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Steps.lean ====
/- The kernel's body as four loops.

   The printed body is straight-line: every loop over the sixteen devices is unrolled, and every trip
   tests whether the device is the trip's own. This module names one trip of each loop, as a program
   of the device and of the trip's indices, and proves that the body is those trips in order. -/
module

public import proofs.«01_k».proof.Proof.Gen.KernelIdeal
public import proofs.«01_k».proof.Proof.Gen.KernelIdeal.Skeleton

@[expose] public section

noncomputable section

namespace AllReduce

open Cert.KernelIdeal Cert.KernelIdeal.Gen
open Idealize.ShloMosaic Idealize.SL.Sem

variable {F : FTy → Type} [FloatOps F]

/-- Programs of the kernel's body. -/
abbrev P (F : FTy → Type) (α : Type) := Prog (TpuEff nD τ sig (Elt F) Λ₀ .tc) α

/-! ## The buffers -/

/-- The block of `partial` this device holds. -/
abbrev xM : Memref sig .tc .vmem S1x512x512 .bf16 := Memref.whole cc0_stg0_0
/-- The residual. -/
abbrev resM : Memref sig .tc .vmem S512x512 .bf16 := Memref.whole cc0_stg1_0
/-- The scale. -/
abbrev gamM : Memref sig .tc .vmem S512 .bf16 := Memref.whole cc0_stg2_0
/-- The result. -/
abbrev outM : Memref sig .tc .vmem S512x512 .f32 := Memref.whole cc0_stg3_0
/-- What is sent in the first exchange, one slot per destination and half. -/
abbrev stM : Memref sig .tc .vmem S16x2x16x512 .bf16 := Memref.whole cc0_scratch0
/-- What is received in the first exchange, one slot per sender and half. -/
abbrev rcM : Memref sig .tc .vmem S16x2x16x512 .bf16 := Memref.whole cc0_scratch1
/-- The normalised rows, one slot per owner and half: sent from and received in by the second exchange. -/
abbrev gaM : Memref sig .tc .vmem S16x2x16x512 .bf16 := Memref.whole cc0_scratch2

/-- A device's own number, as the kernel computes it. -/
abbrev word (c : Dev nD) : BitVec 32 := Scalar.remsi (Scalar.divsi (Dev.word c) 1#32) 16#32

theorem word_lt : ∀ c : Dev nD, (word c).toNat < 16 := by decide

/-- A device's own number as an index of the sixteen. -/
def me (c : Dev nD) : Fin 16 := ⟨(word c).toNat, word_lt c⟩

theorem me_eq : ∀ c : Dev nD, me c = c := by decide

/-- Whether device `c` is not device `j`, as the kernel computes it. -/
abbrev other (c : Dev nD) (j : Fin 16) : BitVec 1 :=
  Scalar.cmpi .ne (Scalar.extui (Scalar.cmpi .ne (word c) (BitVec.ofNat 32 j.val)) : BitVec 32) 0#32

theorem other_iff : ∀ (c : Dev nD) (j : Fin 16), other c j = 1#1 ↔ j ≠ c := by decide

theorem slot_inb (a : Fin 16) (h : Fin 2) :
    ∀ k, (![a.val, h.val, 0, 0] : Fin 4 → ℕ) k + S1x1x16x512.size k ≤ S16x2x16x512.size k := by
  revert a h; decide

theorem slot_words (a : Fin 16) (h : Fin 2) :
    (Rect.unit (s := S16x2x16x512) ![a.val, h.val, 0, 0] S1x1x16x512.size (slot_inb a h)).WholeWords
      (EltTy.packing .bf16) := by
  revert a h; decide

theorem cell_inb (h : Fin 2) (j : Fin 16) :
    ∀ k, (![h.val, j.val] : Fin 2 → ℕ) k + S1x1.size k ≤ S2x16.size k := by
  revert h j; decide

/-- Slot `(a, h)` of a buffer of thirty-two slots: sixteen rows of 512. -/
abbrev slot (b : Memref sig .tc .vmem S16x2x16x512 .bf16) (a : Fin 16) (h : Fin 2) :
    Memref sig .tc .vmem S16x512 .bf16 :=
  (b.slice (Rect.unit (s := S16x2x16x512) ![a.val, h.val, 0, 0] S1x1x16x512.size (slot_inb a h))
    (fun _ => rfl)).squeeze S16x512 squeezes_S1x1x16x512_S16x512

theorem slot_exact {b : Memref sig .tc .vmem S16x2x16x512 .bf16} (hb : b.IsWhole) (a : Fin 16) (h : Fin 2) :
    (slot b a h).view.WordExact :=
  (hb.wordExact_slice rfl _ (slot_words a h)).reshape _ _

/-- Semaphore `(h, j)` of an array of thirty-two. -/
abbrev cell (s : DmaSems sig S2x16) (h : Fin 2) (j : Fin 16) : DmaSem sig :=
  ((s.slice (Rect.unit (s := S2x16) ![h.val, j.val] S1x1.size (cell_inb h j))).squeeze S_
    squeezes_S1x1_S_).sem

/-- The barrier semaphore. -/
abbrev barS : Sem sig := (SemArray.scalar (sig.barrier 0 rfl) : Sems sig S_).sem

/-! ## One trip of each loop

A trip is its device and what it does when this device is another one. -/

/-- A trip: the device it tests against, and what it does. -/
abbrev Trip (F : FTy → Type) := Fin 16 × P F PUnit

/-- Tell device `j` that this device has started. -/
def hail (c : Dev nD) (j : Fin 16) : Trip F := (j, semSignalWord j barS 1#32)

/-- Start the copy of half `h` of device `j`'s rows to device `j`. -/
def rsSend (c : Dev nD) (h : Fin 2) (j : Fin 16) : Trip F :=
  (j, Prog.lift (.enqueueDma (slot stM j h)
      (.remote (Dev.tc (j : Dev nD)) (slot rcM (me c) h) (.dma (cell cc0_scratch3 h j)))
      (.dma (cell cc0_scratch4 h (me c))) (slot_exact (Memref.isWhole_whole _) j h)
      (slot_exact (Memref.isWhole_whole _) (me c) h) ⟨⟨rfl, Or.inl rfl⟩, trivial⟩))

/-- Wait for half `h` of this device's rows from device `s`. -/
def rsRecv (h : Fin 2) (s : Fin 16) : Trip F :=
  (s, Prog.lift (.waitDma2 (cell cc0_scratch4 h s) (slot stM s h) (slot rcM s h)
      (slot_exact (Memref.isWhole_whole _) s h) (slot_exact (Memref.isWhole_whole _) s h)))

/-- Start the copy of half `h` of this device's normalised rows to device `j`. -/
def agSend (c : Dev nD) (h : Fin 2) (j : Fin 16) : Trip F :=
  (j, Prog.lift (.enqueueDma (slot gaM (me c) h)
      (.remote (Dev.tc (j : Dev nD)) (slot gaM (me c) h) (.dma (cell cc0_scratch5 h j)))
      (.dma (cell cc0_scratch6 h (me c))) (slot_exact (Memref.isWhole_whole _) (me c) h)
      (slot_exact (Memref.isWhole_whole _) (me c) h) ⟨⟨rfl, Or.inl rfl⟩, trivial⟩))

/-- Wait until the copy of the first exchange to device `j` has left. -/
def rsLeft (c : Dev nD) (h : Fin 2) (j : Fin 16) : Trip F :=
  (j, Prog.lift (.waitDma2 (cell cc0_scratch3 h j) (slot rcM (me c) h) (slot stM j h)
      (slot_exact (Memref.isWhole_whole _) (me c) h) (slot_exact (Memref.isWhole_whole _) j h)))

/-- Wait for half `h` of device `s`'s normalised rows. -/
def agRecv (h : Fin 2) (s : Fin 16) : Trip F :=
  (s, Prog.lift (.waitDma2 (cell cc0_scratch6 h s) (slot gaM s h) (slot gaM s h)
      (slot_exact (Memref.isWhole_whole _) s h) (slot_exact (Memref.isWhole_whole _) s h)))

/-- Wait until the copy of the second exchange to device `j` has left. -/
def agLeft (c : Dev nD) (h : Fin 2) (j : Fin 16) : Trip F :=
  (j, Prog.lift (.waitDma2 (cell cc0_scratch5 h j) (slot gaM (me c) h) (slot gaM (me c) h)
      (slot_exact (Memref.isWhole_whole _) (me c) h) (slot_exact (Memref.isWhole_whole _) (me c) h)))

/-- The trips of a list one after another, then `k`. -/
def run {α : Type} (c : Dev nD) : List (Trip F) → P F α → P F α
  | [], k => k
  | t :: l, k => if _h : other c t.1 = 1#1 then t.2 >>= fun _ => run c l k else run c l k

theorem run_bind {α β : Type} (c : Dev nD) (l : List (Trip F)) (k : P F α) (f : α → P F β) :
    run c l k >>= f = run c l (k >>= f) := by
  induction l with
  | nil => rfl
  | cons t l ih =>
    unfold run
    split
    · rw [bind_assoc]; simp only [ih]
    · exact ih

theorem run_append {α : Type} (c : Dev nD) (l l' : List (Trip F)) (k : P F α) :
    run c l (run c l' k) = run c (l ++ l') k := by
  induction l with
  | nil => rfl
  | cons t l ih => simp only [run, List.cons_append, ih]

/-! ## The straight-line pieces between the loops -/

/-- Read this device's block and lay it out by destination. -/
def stage {α : Type} (k : P F α) : P F α := do
  let v ← Prog.lift (.load xM (Rect.unit (s := S1x512x512) ![0, 0, 0] S1x512x512.size
    inb_S1x512x512_S1x512x512_0_0_0).toLoadRect (View.loadsAt_vmem h_S1x512x512))
  let _ ← Prog.lift (.load stM (Rect.unit (s := S16x2x16x512) ![0, 0, 0, 0] S16x2x16x512.size
    inb_S16x2x16x512_S16x2x16x512_0_0_0_0).toLoadRect (View.loadsAt_vmem h_S16x2x16x512))
  Prog.lift (.store stM (Rect.unit (s := S16x2x16x512) ![0, 0, 0, 0] S16x2x16x512.size
    inb_S16x2x16x512_S16x2x16x512_0_0_0_0) (k0_pay2 v) Finset.univ
    (View.stores_vmem h_S16x2x16x512 ((Memref.isWhole_whole _ : stM.IsWhole).storeExact_slice rfl _
      packedbf16_S16x2x16x512_S16x2x16x512_0_0_0_0) (fun _ => rfl)) (.inl rfl))
  k

/-- Copy this device's own two slots from what is sent to what is received. -/
def own {α : Type} (c : Dev nD) (k : P F α) : P F α := do
  let v ← Prog.lift (.load stM (Rect.unit (s := S16x2x16x512) (k0_off65 c) S1x2x16x512.size
    (k0_off65_inb c)).toLoadRect (View.loadsAt_vmem h_S1x2x16x512))
  let _ ← Prog.lift (.load rcM (Rect.unit (s := S16x2x16x512) (k0_off65 c) S1x2x16x512.size
    (k0_off65_inb c)).toLoadRect (View.loadsAt_vmem h_S1x2x16x512))
  Prog.lift (.store rcM (Rect.unit (s := S16x2x16x512) (k0_off65 c) S1x2x16x512.size
    (k0_off65_inb c)) (k0_pay3 v) Finset.univ
    (View.stores_vmem h_S1x2x16x512 ((Memref.isWhole_whole _ : rcM.IsWhole).storeExact_slice rfl _
      (k0_off65_packedbf16 c)) (fun _ => rfl)) (.inl rfl))
  k

theorem half_inb (h : Fin 2) :
    ∀ k, (![0, h.val, 0, 0] : Fin 4 → ℕ) k + S16x1x16x512.size k ≤ S16x2x16x512.size k := by
  revert h; decide

theorem slot_packed (a : Fin 16) (h : Fin 2) :
    (Rect.unit (s := S16x2x16x512) ![a.val, h.val, 0, 0] S1x1x16x512.size (slot_inb a h)).PackedRows
      (EltTy.packing .bf16) := by
  revert a h; decide

/-- Sum half `h` of the sixteen received blocks, add the residual, normalise and keep the rows in slot
    `(a, h)`. -/
def normIn {α : Type} (c : Dev nD) (a : Fin 16) (h : Fin 2) (k : P F α) : P F α := do
  let v ← Prog.lift (.load rcM (Rect.unit (s := S16x2x16x512) ![0, h.val, 0, 0] S16x1x16x512.size
    (half_inb h)).toLoadRect (View.loadsAt_vmem h_S16x1x16x512))
  let w ← Prog.lift (.load resM (Rect.unit (s := S512x512) (k0_off66 c (BitVec.ofNat 32 (16 * h.val)))
    S16x512.size (k0_off66_inb c h)).toLoadRect (View.loadsAt_vmem h_S16x512))
  let g ← Prog.lift (.load gamM (Rect.unit (s := S512) ![0] S512.size inb_S512_S512_0).toLoadRect
    (View.loadsAt_vmem h_S512))
  let _ ← Prog.lift (.load gaM (Rect.unit (s := S16x2x16x512) ![a.val, h.val, 0, 0]
    S1x1x16x512.size (slot_inb a h)).toLoadRect (View.loadsAt_vmem h_S1x1x16x512))
  Prog.lift (.store gaM (Rect.unit (s := S16x2x16x512) ![a.val, h.val, 0, 0]
    S1x1x16x512.size (slot_inb a h)) (k0_pay4 v w g) Finset.univ
    (View.stores_vmem h_S1x1x16x512 ((Memref.isWhole_whole _ : gaM.IsWhole).storeExact_slice rfl _
      (slot_packed a h)) (fun _ => rfl)) (.inl rfl))
  k

/-- The same, in the device's own slot. -/
def norm {α : Type} (c : Dev nD) (h : Fin 2) (k : P F α) : P F α := normIn c (me c) h k

/-- Lay the normalised rows out as the result. -/
def finish : P F PUnit := do
  let v ← Prog.lift (.load gaM (Rect.unit (s := S16x2x16x512) ![0, 0, 0, 0] S16x2x16x512.size
    inb_S16x2x16x512_S16x2x16x512_0_0_0_0).toLoadRect (View.loadsAt_vmem h_S16x2x16x512))
  let _ ← Prog.lift (.load outM (Rect.unit (s := S512x512) ![0, 0] S512x512.size
    inb_S512x512_S512x512_0_0).toLoadRect (View.loadsAt_vmem h_S512x512))
  Prog.lift (.store outM (Rect.unit (s := S512x512) ![0, 0] S512x512.size inb_S512x512_S512x512_0_0)
    (k0_pay1 v) Finset.univ (View.stores_vmem_bits_univ h_S512x512 rfl) (.inl rfl))
  pure ⟨⟩

theorem stage_bind {α β : Type} (k : P F α) (f : α → P F β) : stage k >>= f = stage (k >>= f) := by
  simp only [stage, bind_assoc]

theorem own_bind {α β : Type} (c : Dev nD) (k : P F α) (f : α → P F β) :
    own c k >>= f = own c (k >>= f) := by
  simp only [own, bind_assoc]

theorem norm_bind {α β : Type} (c : Dev nD) (h : Fin 2) (k : P F α) (f : α → P F β) :
    norm c h k >>= f = norm c h (k >>= f) := by
  simp only [norm, normIn, bind_assoc]

/-- The kernel's body on device `c`. -/
def body (c : Dev nD) : P F PUnit :=
  run c ((List.finRange 16).map (hail c)) do
  semWaitWord barS 15#32
  stage <|
    run c ((List.finRange 16).map (rsSend c 0)) <| run c ((List.finRange 16).map (rsSend c 1)) <|
    own c <|
    run c ((List.finRange 16).map (rsRecv 0)) <|
    norm c 0 <|
    run c ((List.finRange 16).map (agSend c 0)) <| run c ((List.finRange 16).map (rsRecv 1)) <|
    norm c 1 <|
    run c ((List.finRange 16).map (agSend c 1)) <|
    run c ((List.finRange 16).map (rsLeft c 0)) <| run c ((List.finRange 16).map (rsLeft c 1)) <|
    run c ((List.finRange 16).map (agRecv 0)) <| run c ((List.finRange 16).map (agRecv 1)) <|
    run c ((List.finRange 16).map (agLeft c 0)) <| run c ((List.finRange 16).map (agLeft c 1)) <|
    finish

/-! ## The printed parts are trips in order -/

/-- Whether device `c` is not device `j`, as one printed part hands it to the next. -/
abbrev ne (c : Dev nD) (j : Fin 16) : BitVec 32 := Scalar.extui (Scalar.cmpi .ne (word c) (BitVec.ofNat 32 j.val))

set_option maxRecDepth 65536

theorem part1 :
    k0_part1_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 =
    (Prog.lift .deviceId : P F (Dev nD)) >>= fun c => run c ([0, 1, 2, 3, 4, 5, 6, 7].map (hail c))
      (pure ⟨c, word c, SemArray.scalar (sig.barrier 0 rfl)⟩) := rfl

theorem part2 (c : Dev nD) :
    k0_part2_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (SemArray.scalar (sig.barrier 0 rfl)) =
    run c ([8, 9, 10, 11, 12, 13, 14, 15].map (hail c)) (do semWaitWord barS 15#32; stage (pure ⟨⟩)) := rfl

theorem part3 (c : Dev nD) :
    k0_part3_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) =
    run c ([0, 1, 2, 3, 4, 5, 6, 7, 8, 9].map (rsSend c 0)) (pure ⟨⟩) := rfl

theorem part4 (c : Dev nD) :
    k0_part4_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) =
    run c ([10, 11, 12, 13, 14, 15].map (rsSend c 0) ++
      [0, 1, 2, 3].map (rsSend c 1)) (pure ⟨⟩) := rfl

theorem part5 (c : Dev nD) :
    k0_part5_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) =
    run c ([4, 5, 6, 7, 8, 9, 10, 11, 12, 13].map (rsSend c 1)) (pure ⟨⟩) := rfl

theorem part6 (c : Dev nD) :
    k0_part6_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) =
    run c ([14, 15].map (rsSend c 1)) (own c (run c ([0, 1, 2, 3, 4].map (rsRecv 0))
      (pure (other c 5)))) := rfl

theorem part7 (c : Dev nD) :
    k0_part7_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 (word c) (other c 5) =
    run c ([5, 6, 7, 8, 9, 10, 11, 12, 13, 14].map (rsRecv 0)) (pure (other c 15)) := rfl

theorem part8 (c : Dev nD) :
    k0_part8_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (other c 15) =
    run c ([15].map (rsRecv 0)) (norm c 0 (run c ([0].map (agSend c 0))
      (pure ⟨ne c 1, 0#32⟩))) := rfl

theorem part9 (c : Dev nD) :
    k0_part9_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 1) 0#32 =
    run c ([1, 2, 3, 4, 5, 6, 7, 8, 9, 10].map (agSend c 0)) (pure ⟨ne c 11, 0#32⟩) := rfl

theorem part10 (c : Dev nD) :
    k0_part10_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 11) 0#32 =
    run c ([11, 12, 13, 14, 15].map (agSend c 0) ++
      [0, 1, 2, 3, 4].map (rsRecv 1)) (pure ⟨ne c 5, 0#32⟩) := rfl

theorem part11 (c : Dev nD) :
    k0_part11_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 (word c) (ne c 5) 0#32 =
    run c ([5, 6, 7, 8, 9, 10, 11, 12, 13, 14].map (rsRecv 1)) (pure ⟨ne c 15, 0#32⟩) := rfl

theorem part12 (c : Dev nD) :
    k0_part12_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 15) 0#32 =
    run c ([15].map (rsRecv 1)) (norm c 1 (run c ([0].map (agSend c 1))
      (pure (ne c 1)))) := rfl

theorem part13 (c : Dev nD) :
    k0_part13_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 1) =
    run c ([1, 2, 3, 4, 5, 6, 7, 8, 9, 10].map (agSend c 1)) (pure (ne c 11)) := rfl

theorem part14 (c : Dev nD) :
    k0_part14_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 11) =
    run c ([11, 12, 13, 14, 15].map (agSend c 1) ++
      [0, 1, 2, 3, 4].map (rsLeft c 0)) (pure (ne c 5)) := rfl

theorem part15 (c : Dev nD) :
    k0_part15_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 5) =
    run c ([5, 6, 7, 8, 9, 10, 11, 12, 13, 14].map (rsLeft c 0)) (pure (ne c 15)) := rfl

theorem part16 (c : Dev nD) :
    k0_part16_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 15) =
    run c ([15].map (rsLeft c 0) ++
      [0, 1, 2, 3, 4, 5, 6, 7, 8].map (rsLeft c 1)) (pure (ne c 9)) := rfl

theorem part17 (c : Dev nD) :
    k0_part17_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 9) =
    run c ([9, 10, 11, 12, 13, 14, 15].map (rsLeft c 1) ++
      [0, 1, 2].map (agRecv 0)) (pure (ne c 3)) := rfl

theorem part18 (c : Dev nD) :
    k0_part18_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 (word c) (ne c 3) =
    run c ([3, 4, 5, 6, 7, 8, 9, 10, 11, 12].map (agRecv 0)) (pure (ne c 13)) := rfl

theorem part19 (c : Dev nD) :
    k0_part19_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 (word c) (ne c 13) =
    run c ([13, 14, 15].map (agRecv 0) ++
      [0, 1, 2, 3, 4, 5, 6].map (agRecv 1)) (pure (ne c 7)) := rfl

theorem part20 (c : Dev nD) :
    k0_part20_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 7) =
    run c ([7, 8, 9, 10, 11, 12, 13, 14, 15].map (agRecv 1) ++
      [0].map (agLeft c 0)) (pure (ne c 1)) := rfl

theorem part21 (c : Dev nD) :
    k0_part21_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 1) =
    run c ([1, 2, 3, 4, 5, 6, 7, 8, 9, 10].map (agLeft c 0)) (pure (ne c 11)) := rfl

theorem part22 (c : Dev nD) :
    k0_part22_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 11) =
    run c ([11, 12, 13, 14, 15].map (agLeft c 0) ++
      [0, 1, 2, 3, 4].map (agLeft c 1)) (pure (ne c 5)) := rfl

theorem part23 (c : Dev nD) :
    k0_part23_skel (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 c (word c) (ne c 5) =
    run c ([5, 6, 7, 8, 9, 10, 11, 12, 13, 14].map (agLeft c 1)) (pure (ne c 15)) := rfl

end AllReduce
-- ==== Proof.Slots.lean ====
/- The thirty-two slots of a buffer.

   A buffer of 16 × 2 × 16 × 512 elements is cut into thirty-two slots, one per device and half, of
   sixteen rows of 512. This module gives the elements under a slot, what a copy from slot to slot
   writes, and how a buffer is the slots together. -/
module

public import proofs.«01_k».proof.Proof.Steps
public import Idealize.ShloMosaic.Lib.Pipeline.Launch
public import Idealize.ShloMosaic.Lib.Pipeline.Kit
public import Idealize.ShloMosaic.Lib.Tactic

@[expose] public section

noncomputable section

namespace AllReduce

open Cert.KernelIdeal Cert.KernelIdeal.Gen
open Idealize.ShloMosaic Idealize.ShloMosaic.TcCoe Idealize.SL.Sem

variable {F : FTy → Type} [FloatOps F]

/-- The places of a slotted buffer. -/
abbrev Ix := S16x2x16x512.Idx

/-- What a slotted buffer holds. -/
abbrev Held (F : FTy → Type) := Ix → Elt F .bf16

/-- The elements of slot `(a, h)`. -/
def I (a : Fin 16) (h : Fin 2) : Finset Ix :=
  Finset.univ.filter fun i => (i 0).val = a.val ∧ (i 1).val = h.val

theorem mem_I {a : Fin 16} {h : Fin 2} {i : Ix} : i ∈ I a h ↔ (i 0).val = a.val ∧ (i 1).val = h.val := by
  simp [I]

/-- The same row and column of slot `(a, h)`. -/
def move (a : Fin 16) (h : Fin 2) (i : Ix) : Ix
  | ⟨0, _⟩ => a
  | ⟨1, _⟩ => h
  | ⟨2, _⟩ => i 2
  | ⟨3, _⟩ => i 3

theorem move_self {a : Fin 16} {h : Fin 2} {i : Ix} (hi : i ∈ I a h) : move a h i = i := by
  obtain ⟨h0, h1⟩ := mem_I.mp hi
  funext k
  fin_cases k
  · exact Fin.ext h0.symm
  · exact Fin.ext h1.symm
  · rfl
  · rfl

/-- Where row `x 0`, column `x 1` of slot `(a, h)` lies. -/
def place (a : Fin 16) (h : Fin 2) : S16x512.Idx ↪ Ix := (slot stM a h).view.emb

theorem st_emb (a : Fin 16) (h : Fin 2) : (slot stM a h).view.emb = place a h := rfl
theorem rc_emb (a : Fin 16) (h : Fin 2) : (slot rcM a h).view.emb = place a h := rfl
theorem ga_emb (a : Fin 16) (h : Fin 2) : (slot gaM a h).view.emb = place a h := rfl

theorem st_set (a : Fin 16) (h : Fin 2) : (slot stM a h).view.set = I a h := by
  show (((View.whole cc0_scratch0).slice (Rect.unit (s := S16x2x16x512) ![a.val, h.val, 0, 0]
    S1x1x16x512.size (slot_inb a h))).reshape S16x512 squeezes_S1x1x16x512_S16x512.numel_eq).set = I a h
  rw [View.set_reshape, View.set_slice_whole]
  ext i
  rw [Rect.mem_set_unit, mem_I]
  constructor
  · intro H
    have h0 := H 0
    have h1 := H 1
    simp at h0 h1
    omega
  · rintro ⟨h0, h1⟩ k
    fin_cases k
    · exact ⟨h0.ge, h0.trans_lt (Nat.lt_succ_self _)⟩
    · exact ⟨h1.ge, h1.trans_lt (Nat.lt_succ_self _)⟩
    · exact ⟨Nat.zero_le _, (i 2).isLt.trans_le (Nat.le_add_left _ _)⟩
    · exact ⟨Nat.zero_le _, (i 3).isLt.trans_le (Nat.le_add_left _ _)⟩

theorem rc_set (a : Fin 16) (h : Fin 2) : (slot rcM a h).view.set = I a h := st_set a h
theorem ga_set (a : Fin 16) (h : Fin 2) : (slot gaM a h).view.set = I a h := st_set a h

theorem place_move (a a' : Fin 16) (h h' : Fin 2) (x : S16x512.Idx) :
    move a h (place a' h' x) = place a h x := by
  funext k
  apply Fin.ext
  fin_cases k
  · show a.val = ![a.val, h.val, 0, 0] 0 + 1 * _
    simp only [Matrix.cons_val, Nat.one_mul]
    exact (Nat.add_eq_left.mpr (Nat.lt_one_iff.mp (Fin.isLt _))).symm
  · show h.val = ![a.val, h.val, 0, 0] 1 + 1 * _
    simp only [Matrix.cons_val, Nat.one_mul]
    exact (Nat.add_eq_left.mpr (Nat.lt_one_iff.mp (Fin.isLt _))).symm
  · rfl
  · rfl

theorem place_of_mem {a : Fin 16} {h : Fin 2} {i : Ix} (hi : i ∈ I a h) : ∃ x, place a h x = i := by
  rw [← st_set] at hi
  obtain ⟨x, -, hx⟩ := Finset.mem_map.mp hi
  exact ⟨x, hx⟩

/-- What the first exchange's copy leaves in the slot it lands in. -/
theorem rs_landed (a a' : Fin 16) (h h' : Fin 2) (fd fs : Held F) (i : Ix) (hi : i ∈ I a' h') :
    (slot rcM a' h').view.write (Elt F) fd ((slot stM a h).view.read (Elt F) fs) Finset.univ i =
      fs (move a h i) := by
  obtain ⟨x, rfl⟩ := place_of_mem hi
  rw [place_move]
  exact View.write_emb_of_mem (v := (slot rcM a' h').view) (Val := Elt F) fd
    ((slot stM a h).view.read (Elt F) fs) (M := Finset.univ) (x := x) (Finset.mem_univ _)

/-- What the second exchange's copy leaves in the slot it lands in. -/
theorem ag_landed (a : Fin 16) (h : Fin 2) (fd fs : Held F) (i : Ix) (hi : i ∈ I a h) :
    (slot gaM a h).view.write (Elt F) fd ((slot gaM a h).view.read (Elt F) fs) Finset.univ i = fs i := by
  obtain ⟨x, rfl⟩ := place_of_mem hi
  exact View.write_emb_of_mem (v := (slot gaM a h).view) (Val := Elt F) fd
    ((slot gaM a h).view.read (Elt F) fs) (M := Finset.univ) (x := x) (Finset.mem_univ _)

/-- The elements of a slot named by the pair. -/
abbrev I₂ (p : Fin 16 × Fin 2) : Finset Ix := I p.1 p.2

theorem I_disjoint : ∀ p p' : Fin 16 × Fin 2, p ≠ p' → Disjoint (I₂ p) (I₂ p') := by
  rintro ⟨a, h⟩ ⟨a', h'⟩ hp
  rw [Finset.disjoint_left]
  intro i hi hi'
  obtain ⟨h0, h1⟩ := mem_I.mp hi
  obtain ⟨h0', h1'⟩ := mem_I.mp hi'
  exact hp (Prod.ext (Fin.ext (h0.symm.trans h0')) (Fin.ext (h1.symm.trans h1')))

theorem I_cover (i : Ix) : ∃ p : Fin 16 × Fin 2, i ∈ I₂ p := ⟨(i 0, i 1), mem_I.mpr ⟨rfl, rfl⟩⟩

/-- The bytes a slot's copy counts. -/
abbrev N : ℕ := (slot rcM 0 0).view.dmaCredit
theorem N_pos : 0 < N := View.dmaCredit_pos _ (by decide)

/-! ## The semaphores -/

/-- DMA semaphore `(h, j)` of array `a`: the first exchange's send and receive cells are arrays 0 and
    1, the second's 2 and 3. -/
def cl (a : Fin 4) (h : Fin 2) (j : Fin 16) : DmaSem sig :=
  ⟨4 + (32 * a.val + 16 * h.val + j.val), by have := a.isLt; have := h.isLt; have := j.isLt; show _ < 132; omega⟩

theorem cell3 : ∀ (h : Fin 2) (j : Fin 16), cell cc0_scratch3 h j = cl 0 h j := by decide
theorem cell4 : ∀ (h : Fin 2) (j : Fin 16), cell cc0_scratch4 h j = cl 1 h j := by decide
theorem cell5 : ∀ (h : Fin 2) (j : Fin 16), cell cc0_scratch5 h j = cl 2 h j := by decide
theorem cell6 : ∀ (h : Fin 2) (j : Fin 16), cell cc0_scratch6 h j = cl 3 h j := by decide

end AllReduce
-- ==== Proof.Protocol.lean ====
/- The protocol of the two exchanges.

   Each device has one barrier cell and 128 transfer cells: for each half and each other device, a send
   and a receive cell of the first exchange and a send and a receive cell of the second.

   * The barrier cell of device `c` is signalled once by every other device `d`. With its signal `d`
     hands `c` the right to write the slots of `c` in `d`'s two receiving buffers.
   * The receive cell `(h, s)` of the first exchange on `c` is paid by `s`'s copy into slot `(s, h)`; it
     hands `c` that slot, holding half `h` of `c`'s rows of `s`'s block.
   * The send cell `(h, j)` of the first exchange hands `c` back the slot `(j, h)` it sent.
   * The receive cell `(h, s)` of the second exchange on `c` hands `c` slot `(s, h)`, holding half `h` of
     `s`'s normalised rows.
   * The send cell `(h, j)` of the second exchange hands `c` back the share of its own slot it lent to
     the copy to `j`: fifteen copies read that slot at once.

   Everything happens in one round: no cell is used twice. -/
module

public import proofs.«01_k».proof.Proof.Slots
public import proofs.«01_k».proof.Proof.Gen.KernelIdeal.Launch
public import Idealize.ShloMosaic.Lib.Transfers
public import Idealize.ShloMosaic.Lib.Ring

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's ghost state: duties are named by the device that pays them. -/
abbrev UB : Type := URounds (GSem nD τ sig) (Fin 16)
abbrev UU : Type := UR sig nD τ × UB

/-- The machine's assertions. -/
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What the buffers hold -/

/-- The block of `partial` on device `c`. -/
def xAt (c : Dev nD) : Vec F S1x512x512 .bf16 := m ((c : Thread nD τ).loc main_arg0)
/-- The residual on device `c`. -/
def resAt (c : Dev nD) : Vec F S512x512 .bf16 := m ((c : Thread nD τ).loc main_arg1)
/-- The scale on device `c`. -/
def gamAt (c : Dev nD) : Vec F S512 .bf16 := m ((c : Thread nD τ).loc main_arg2)

/-- What device `c` sends in the first exchange: its block, by destination. -/
def X (c : Dev nD) : Held F := k0_pay2 (xAt m c)

/-- What device `c` has received after the first exchange: in slot `(s, h)`, half `h` of its own rows of
    device `s`'s block. -/
def R (c : Dev nD) : Held F := fun i => X m (i 0) (move c (i 1) i)

/-- Half `h` of all sixteen blocks of a buffer. -/
def halfOf (h : Fin 2) (f : Held F) : Vec F S16x1x16x512 .bf16 :=
  rcM.view.readAt (Elt F) (Rect.unit (s := S16x2x16x512) ![0, h.val, 0, 0] S16x1x16x512.size
    (half_inb h)).toLoadRect f

/-- Half `h` of device `c`'s rows of the residual. -/
def resOf (c : Dev nD) (h : Fin 2) (f : Vec F S512x512 .bf16) : Vec F S16x512 .bf16 :=
  resM.view.readAt (Elt F) (Rect.unit (s := S512x512) (k0_off66 c (BitVec.ofNat 32 (16 * h.val)))
    S16x512.size (k0_off66_inb c h)).toLoadRect f

/-- Half `h` of device `c`'s normalised rows. -/
def rows (c : Dev nD) (h : Fin 2) : FVec F S1x1x16x512 .bf16 :=
  k0_pay4 (halfOf h (R m c)) (resOf c h (resAt m c)) (gamAt m c)

/-- The row and column of a place, as an index of one slot's rows. -/
def inSlot (i : Ix) : S1x1x16x512.Idx
  | ⟨0, _⟩ => (0 : Fin 1)
  | ⟨1, _⟩ => (0 : Fin 1)
  | ⟨2, _⟩ => i 2
  | ⟨3, _⟩ => i 3

/-- All the normalised rows: in slot `(s, h)`, half `h` of device `s`'s. -/
def G : Held F := fun i => rows m (i 0) (i 1) (inSlot i)

/-! ## Slots held -/

abbrev stL (c : Dev nD) : Loc nD τ sig := (c : Thread nD τ).loc cc0_scratch0
abbrev rcL (c : Dev nD) : Loc nD τ sig := (c : Thread nD τ).loc cc0_scratch1
abbrev gaL (c : Dev nD) : Loc nD τ sig := (c : Thread nD τ).loc cc0_scratch2

/-- Slot `(a, h)` of what `c` sends, holding `f`. -/
def stP (c : Dev nD) (a : Fin 16) (h : Fin 2) (f : Held F) : sProp 𝕄 :=
  (stL c) ↦[I a h]{fullShare} (f : Buf (Elt F) (stL c))
/-- Slot `(a, h)` of what `c` receives, holding `f`. -/
def rcP (c : Dev nD) (a : Fin 16) (h : Fin 2) (f : Held F) : sProp 𝕄 :=
  (rcL c) ↦[I a h]{fullShare} (f : Buf (Elt F) (rcL c))
/-- A share of slot `(a, h)` of `c`'s normalised rows, holding `f`. -/
def gaP (c : Dev nD) (q : PosShare TreeShare) (a : Fin 16) (h : Fin 2) (f : Held F) : sProp 𝕄 :=
  (gaL c) ↦[I a h]{q} (f : Buf (Elt F) (gaL c))

instance stP_storable (c : Dev nD) (a h) (f) : BI.Storable (upEmb : UEmb _ 𝕄) (stP (F := F) c a h f) := by
  unfold stP; infer_instance
instance rcP_storable (c : Dev nD) (a h) (f) : BI.Storable (upEmb : UEmb _ 𝕄) (rcP (F := F) c a h f) := by
  unfold rcP; infer_instance
instance gaP_storable (c : Dev nD) (q a h) (f) : BI.Storable (upEmb : UEmb _ 𝕄) (gaP (F := F) c q a h f) := by
  unfold gaP; infer_instance

/-- The devices other than `c`. -/
def others (c : Dev nD) : Finset (Fin 16) := Finset.univ.erase c

theorem others_nonempty (c : Dev nD) : (others c).Nonempty := by
  revert c; decide

theorem mem_others {c : Dev nD} {j : Fin 16} : j ∈ others c ↔ j ≠ c := by simp [others]

/-- The share of its own slot device `c` lends to the copy to device `j`. -/
def lent (c : Dev nD) (j : Fin 16) : PosShare TreeShare := Transfers.dealOf fullShare (others c) j

/-! ## The cells -/

abbrev barC (c : Dev nD) : GSem nD τ sig := ((c : Thread nD τ), .reg barS)
abbrev dmaC (c : Dev nD) (a : Fin 4) (h : Fin 2) (j : Fin 16) : GSem nD τ sig :=
  ((c : Thread nD τ), .dma (cl a h j))

/-- Which of the four arrays a semaphore is in, which half it is of, and which device it is for. -/
def arrOf (q : DmaSem sig) : ℕ := (q.val - 4) / 32
def halfIx (q : DmaSem sig) : Fin 2 := ⟨(q.val - 4) / 16 % 2, Nat.mod_lt _ (by decide)⟩
def devIx (q : DmaSem sig) : Fin 16 := ⟨(q.val - 4) % 16, Nat.mod_lt _ (by decide)⟩

theorem arrOf_cl : ∀ (a : Fin 4) (h : Fin 2) (j : Fin 16), arrOf (cl a h j) = a.val := by decide
theorem halfIx_cl : ∀ (a : Fin 4) (h : Fin 2) (j : Fin 16), halfIx (cl a h j) = h := by decide
theorem devIx_cl : ∀ (a : Fin 4) (h : Fin 2) (j : Fin 16), devIx (cl a h j) = j := by decide
theorem cl_ge : ∀ (a : Fin 4) (h : Fin 2) (j : Fin 16), 4 ≤ (cl a h j).val := by decide

theorem cl_inj {a a' : Fin 4} {h h' : Fin 2} {j j' : Fin 16} (e : cl a h j = cl a' h' j') :
    a = a' ∧ h = h' ∧ j = j' :=
  ⟨Fin.ext (by rw [← arrOf_cl a h j, e, arrOf_cl]), by rw [← halfIx_cl a h j, e, halfIx_cl],
    by rw [← devIx_cl a h j, e, devIx_cl]⟩

/-! ## The schedule -/

/-- What device `d`'s signal hands device `c`: `c`'s slots in `d`'s receiving buffers. -/
def barPay (c d : Dev nD) : sProp 𝕄 :=
  bigSep Finset.univ fun h : Fin 2 => iprop((∃ f, rcP d c h f) ∗ ∃ f, gaP d fullShare c h f)

/-- What the completion of a transfer cell of device `c` hands it. -/
def dmaPay (c : Dev nD) (a : ℕ) (h : Fin 2) (j : Fin 16) : sProp 𝕄 :=
  match a with
  | 0 => stP c j h (X m c)
  | 1 => rcP c j h (R m c)
  | 2 => gaP c (lent c j) c h (G m)
  | _ => gaP c fullShare j h (G m)

instance barPay_storable (c d : Dev nD) : BI.Storable (upEmb : UEmb _ 𝕄) (barPay (F := F) c d) := by
  unfold barPay; infer_instance
instance dmaPay_storable (c : Dev nD) (a h j) : BI.Storable (upEmb : UEmb _ 𝕄) (dmaPay (F := F) m c a h j) := by
  unfold dmaPay; split <;> infer_instance

/-- The duties of a device's cells: its barrier's from every other device, and one per transfer cell
    that is for another device. -/
def dutiesOf (c : Dev nD) : SemLoc sig → Finset (Fin 16)
  | .reg _ => others c
  | .dma q => if 4 ≤ q.val ∧ devIx q ≠ c then {0} else ∅

def amountOf : SemLoc sig → ℕ
  | .reg _ => 1
  | .dma _ => N

def payOf (c : Dev nD) (d : Fin 16) : SemLoc sig → sProp 𝕄
  | .reg _ => barPay c d
  | .dma q => dmaPay m c (arrOf q) (halfIx q) (devIx q)

instance payOf_storable (c : Dev nD) (d : Fin 16) (s : SemLoc sig) :
    BI.Storable (upEmb : UEmb _ 𝕄) (payOf (F := F) m c d s) := by
  cases s <;> (unfold payOf; infer_instance)

/-- The one round of the protocol. -/
def Rd : Rounds.Schedule (GSem nD τ sig) (Fin 16) 𝕄 where
  duties g r := if r = 0 ∧ g.1.2 = .tc then dutiesOf g.1.1 g.2 else ∅
  unitless _ := False
  amount g _ _ := amountOf g.2
  payload g _ d := payOf m g.1.1 d g.2
  amount_pos g _ _ _ := by
    cases g.2 with
    | reg s => exact Nat.one_pos
    | dma q => exact N_pos

instance Rd_payload_storable (g : GSem nD τ sig) (r : ℕ) (d : Fin 16) :
    BI.Storable (upEmb : UEmb _ 𝕄) ((Rd (F := F) m).payload g r d) := payOf_storable m g.1.1 d g.2

section Sched
variable (c : Dev nD)

theorem duties_bar : (Rd (F := F) m).duties (barC c) 0 = others c := by
  simp [Rd, dutiesOf]

theorem duties_dma (a : Fin 4) (h : Fin 2) (j : Fin 16) (hj : j ≠ c) :
    (Rd (F := F) m).duties (dmaC c a h j) 0 = {0} := by
  simp [Rd, dutiesOf, cl_ge, devIx_cl, hj]

theorem duties_dma_self (a : Fin 4) (h : Fin 2) : (Rd (F := F) m).duties (dmaC c a h c) 0 = ∅ := by
  simp [Rd, dutiesOf, devIx_cl]

theorem duties_later (g : GSem nD τ sig) (r : ℕ) (hr : 1 ≤ r) : (Rd (F := F) m).duties g r = ∅ :=
  if_neg fun H => by omega

theorem amount_bar (d : Fin 16) : (Rd (F := F) m).amount (barC c) 0 d = 1 := rfl
theorem amount_dma (a : Fin 4) (h : Fin 2) (j d : Fin 16) : (Rd (F := F) m).amount (dmaC c a h j) 0 d = N := rfl

theorem expect_bar : (Rd (F := F) m).expect (barC c) 0 = 15 := by
  unfold Schedule.expect Schedule.amountOf
  rw [duties_bar, Finset.sum_congr rfl fun d _ => amount_bar m c d, Finset.sum_const, smul_eq_mul,
    others, Finset.card_erase_of_mem (Finset.mem_univ _)]
  rfl

theorem expect_dma (a : Fin 4) (h : Fin 2) (j : Fin 16) (hj : j ≠ c) :
    (Rd (F := F) m).expect (dmaC c a h j) 0 = N := by
  unfold Schedule.expect Schedule.amountOf
  rw [duties_dma m c a h j hj, Finset.sum_singleton, amount_dma]

theorem pay_bar (d : Fin 16) : (Rd (F := F) m).payload (barC c) 0 d = barPay c d := rfl

theorem pay_dma (a : Fin 4) (h : Fin 2) (j d : Fin 16) :
    (Rd (F := F) m).payload (dmaC c a h j) 0 d = dmaPay m c a.val h j := by
  show dmaPay m c (arrOf (cl a h j)) (halfIx (cl a h j)) (devIx (cl a h j)) = _
  rw [arrOf_cl, halfIx_cl, devIx_cl]

/-- All of the barrier's round. -/
theorem rest_bar :
    bigSep ((Rd (F := F) m).duties (barC c) 0 \ ∅) (fun d => (Rd (F := F) m).payload (barC c) 0 d) =
      bigSep (others c) fun d => barPay (F := F) c d := by
  rw [Finset.sdiff_empty, duties_bar]; rfl

/-- All of a transfer cell's round. -/
theorem rest_dma (a : Fin 4) (h : Fin 2) (j : Fin 16) (hj : j ≠ c) :
    bigSep ((Rd (F := F) m).duties (dmaC c a h j) 0 \ ∅) (fun d => (Rd (F := F) m).payload (dmaC c a h j) 0 d) =
      dmaPay (F := F) m c a.val h j := by
  rw [Finset.sdiff_empty, duties_dma m c a h j hj, bigSep_singleton, pay_dma]

end Sched

/-! ## Debts and levels -/

/-- The level of a cell: a device waits on a cell only while everything it owes lies higher. -/
def level : SemLoc sig → ℕ
  | .reg _ => 1
  | .dma q => if arrOf q = 1 then 2 else if arrOf q = 3 then 3 else 0

def lv (g : GSem nD τ sig) (_ : Unit) : ℕ := level g.2

def L (g : GSem nD τ sig) : Finset Unit := if g.1.2 = .tc then {()} else ∅

theorem L_of_ne (g : GSem nD τ sig) (h : g.1.2 ≠ .tc) : L g = ∅ := if_neg h
theorem L_tc (c : Dev nD) (s : SemLoc sig) : L ((c : Thread nD τ), s) = {()} := if_pos rfl

theorem level_bar : level (.reg barS : SemLoc sig) = 1 := rfl
theorem level_cl : ∀ (a : Fin 4) (h : Fin 2) (j : Fin 16),
    level (.dma (cl a h j) : SemLoc sig) = if a = 1 then 2 else if a = 3 then 3 else 0 := by decide

/-- One unit on each other device's barrier. -/
def owesBar (c : Dev nD) : CellTallies nD τ sig Unit := ∑ j ∈ others c, tallyAt (barC j) () 1
/-- The bytes of half `h` of exchange `a` on each other device's receive cell. -/
def owesDma (c : Dev nD) (a : Fin 4) (h : Fin 2) : CellTallies nD τ sig Unit :=
  ∑ j ∈ others c, tallyAt (dmaC j a h c) () N

/-- What device `c` owes at launch. -/
def O₀ (c : Dev nD) : CellTallies nD τ sig Unit :=
  owesDma c 3 1 + owesDma c 3 0 + owesDma c 1 1 + owesDma c 1 0 + owesBar c

/-- Debts all on cells of TensorCores at level above `n`. -/
def Above (n : ℕ) (O : CellTallies nD τ sig Unit) : Prop :=
  ∀ g u, 0 < O g u → g.1.2 = .tc ∧ n < level g.2

theorem Above.add {n : ℕ} {O O' : CellTallies nD τ sig Unit} (h : Above n O) (h' : Above n O') :
    Above n (O + O') := by
  intro g u hg
  rw [Pi.add_apply, Finsupp.add_apply] at hg
  rcases Nat.eq_zero_or_pos (O g u) with h0 | h0
  · exact h' g u (by omega)
  · exact h g u h0

theorem Above.zero {n : ℕ} : Above n 0 := fun g u hg => absurd hg (Nat.lt_irrefl 0)

theorem Above.sum {n : ℕ} (s : Finset (Fin 16)) (f : Fin 16 → CellTallies nD τ sig Unit)
    (h : ∀ j ∈ s, Above n (f j)) : Above n (∑ j ∈ s, f j) := by
  classical
  induction s using Finset.induction_on with
  | empty => exact Above.zero
  | insert j s hj ih =>
    rw [Finset.sum_insert hj]
    exact (h j (Finset.mem_insert_self _ _)).add (ih fun i hi => h i (Finset.mem_insert_of_mem hi))

theorem Above.at {n k : ℕ} {c : Dev nD} {s : SemLoc sig} (h : n < level s) :
    Above n (tallyAt ((c : Thread nD τ), s) () k) := by
  intro g u hg
  rw [tallyAt_apply] at hg
  by_cases e : g = ((c : Thread nD τ), s) ∧ u = ()
  · obtain ⟨rfl, -⟩ := e; exact ⟨rfl, h⟩
  · rw [if_neg e] at hg; exact absurd hg (Nat.lt_irrefl 0)

theorem above_owesBar (c : Dev nD) : Above 0 (owesBar c) :=
  Above.sum _ _ fun j _ => Above.at (by decide)

theorem above_owesDma {n : ℕ} (c : Dev nD) (a : Fin 4) (h : Fin 2)
    (hn : ∀ j, n < level (.dma (cl a h j) : SemLoc sig)) : Above n (owesDma c a h) :=
  Above.sum _ _ fun j _ => Above.at (hn c)

theorem above_dma {n : ℕ} (c : Dev nD) (a : Fin 4) (h : Fin 2) (hn : n < if a = 1 then 2 else if a = 3 then 3 else 0) :
    Above n (owesDma c a h) :=
  above_owesDma c a h fun j => by rw [level_cl]; exact hn

theorem above_O₀ (c : Dev nD) : Above 0 (O₀ c) :=
  ((((above_dma c 3 1 (by decide)).add (above_dma c 3 0 (by decide))).add (above_dma c 1 1 (by decide))).add
    (above_dma c 1 0 (by decide))).add (above_owesBar c)

/-- A device may wait on a cell while everything it owes lies above. -/
theorem mayWait (c : Dev nD) (s : SemLoc sig) {O : CellTallies nD τ sig Unit} (h : Above (level s) O) :
    (levAts L lv : sProp 𝕄) ⊢ MayWait (c : Thread nD τ) s () O :=
  MayOwe.of_cut (L := L) (lev := lv) (level s)
    (fun p hp => by rw [Finset.mem_singleton.mp hp, L_tc]; exact Finset.mem_singleton_self _)
    (fun g u hg => by
      have h1 := (h g u hg).1
      show u ∈ L g
      unfold L; rw [if_pos h1]; exact Finset.mem_singleton_self _)
    (fun p hp => by rw [Finset.mem_singleton.mp hp]; exact le_refl _)
    (fun g u hg => (h g u hg).2)

end AllReduce
-- ==== Proof.Loops.lean ====
/- A loop over the other devices, trip by trip.

   One rule serves all the loops: a trip for another device `j` turns what the loop holds for `j`
   before the trip into what it holds after, and moves the device's own state one trip on. The
   trip for the device itself does nothing. -/
module

public import proofs.«01_k».proof.Proof.Protocol

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a loop holds for the other devices while the trips of `l` are left: `A j` before `j`'s trip,
    `B j` after it. -/
def during (c : Dev nD) (A B : Fin 16 → sProp 𝕄) (l : List (Fin 16)) : sProp 𝕄 :=
  bigSep (others c) fun j => if j ∈ l then A j else B j

theorem during_all (c : Dev nD) (A B : Fin 16 → sProp 𝕄) :
    during c A B (List.finRange 16) = bigSep (others c) A :=
  bigSep_congr fun j _ => if_pos (List.mem_finRange j)

theorem during_none (c : Dev nD) (A B : Fin 16 → sProp 𝕄) : during c A B [] = bigSep (others c) B :=
  bigSep_congr fun j _ => if_neg List.not_mem_nil

theorem during_self (c : Dev nD) (A B : Fin 16 → sProp 𝕄) (l : List (Fin 16)) :
    during c A B (c :: l) = during c A B l :=
  bigSep_congr fun j hj => by
    have := mem_others.mp hj
    simp only [List.mem_cons, this, false_or]

/-- What the loop holds for the other devices but `j`. -/
def rest (c : Dev nD) (A B : Fin 16 → sProp 𝕄) (j : Fin 16) (l : List (Fin 16)) : sProp 𝕄 :=
  bigSep ((others c).erase j) fun i => if i ∈ l then A i else B i

theorem during_before {c : Dev nD} (A B : Fin 16 → sProp 𝕄) {j : Fin 16} {l : List (Fin 16)} (hj : j ≠ c) :
    during c A B (j :: l) = iprop(A j ∗ rest c A B j l) := by
  unfold during rest
  rw [bigSep_erase (mem_others.mpr hj), if_pos List.mem_cons_self]
  refine congrArg _ (bigSep_congr fun i hi => ?_)
  have := Finset.ne_of_mem_erase hi
  simp only [List.mem_cons, this, false_or]

theorem during_after {c : Dev nD} (A B : Fin 16 → sProp 𝕄) {j : Fin 16} {l : List (Fin 16)} (hj : j ≠ c)
    (hl : j ∉ l) : during c A B l = iprop(B j ∗ rest c A B j l) := by
  unfold during rest
  rw [bigSep_erase (mem_others.mpr hj), if_neg hl]
  rfl

/-- What one trip for another device must do. -/
def StepOk (c : Dev nD) (trip : Fin 16 → Trip F) (P₀ : sProp 𝕄) (A B : Fin 16 → sProp 𝕄)
    (C : List (Fin 16) → sProp 𝕄) : Prop :=
  ∀ (j : Fin 16) (l : List (Fin 16)), j ≠ c → j ∉ l → ∀ {α : Type} (k : PUnit → P F α) (Q : α → sProp 𝕄),
    iprop(P₀ ∗ A j ∗ C (j :: l)) ⊢
      iprop(((B j ∗ C l) -∗ wp frame (wpE (defs₀ (F := F)) 𝒱₀ (c : Thread nD τ) none) Set.univ (k ⟨⟩) Q)
        -∗ wp frame (wpE (defs₀ (F := F)) 𝒱₀ (c : Thread nD τ) none) Set.univ ((trip j).2 >>= k) Q)

/-- The rule for a loop: all its trips, in order. -/
theorem wp_run {α : Type} (c : Dev nD) (trip : Fin 16 → Trip F) (hdev : ∀ j, (trip j).1 = j)
    (P₀ : sProp 𝕄) [BI.Persistent P₀] (A B : Fin 16 → sProp 𝕄) (C : List (Fin 16) → sProp 𝕄)
    (step : StepOk c trip P₀ A B C) (skip : ∀ l, C (c :: l) ⊢ C l)
    (k : P F α) (Q : α → sProp 𝕄) (l : List (Fin 16)) (hl : l.Nodup) :
    iprop(P₀ ∗ during c A B l ∗ C l) ⊢
      iprop(((bigSep (others c) B ∗ C []) -∗ wp frame (wpE (defs₀ (F := F)) 𝒱₀ (c : Thread nD τ) none) Set.univ k Q)
        -∗ wp frame (wpE (defs₀ (F := F)) 𝒱₀ (c : Thread nD τ) none) Set.univ (run c (l.map trip) k) Q) := by
  induction l with
  | nil =>
    rw [during_none]
    iintro ⟨-, HB, HC⟩ Hk
    iapply Hk
    isplitl [HB] <;> iassumption
  | cons j l ih =>
    obtain ⟨hj, hl'⟩ := List.nodup_cons.mp hl
    rw [List.map_cons, run]
    by_cases e : j = c
    · rw [dif_neg (by rw [other_iff, hdev]; exact fun h => h e)]
      subst e
      rw [during_self]
      iintro ⟨#HP, HD, HC⟩ Hk
      iapply (ih hl') $$ [HD HC]
      · isplitr; · iexact HP
        isplitl [HD]; · iexact HD
        iapply (skip l); iexact HC
      iexact Hk
    · rw [dif_pos (by rw [other_iff, hdev]; exact e), during_before A B e]
      iintro ⟨#HP, ⟨HA, HR⟩, HC⟩ Hk
      iapply (step j l e hj) $$ [HA HC]
      · isplitr; · iexact HP
        isplitl [HA]; · iexact HA
        iexact HC
      iintro ⟨HB, HC⟩
      iapply (ih hl') $$ [HB HR HC]
      · isplitr; · iexact HP
        rw [during_after A B e hj]
        isplitr [HC]
        · isplitl [HB]; · iexact HB
          iexact HR
        · iexact HC
      iexact Hk

/-- The loop over all sixteen devices. -/
theorem wp_loop {α : Type} (c : Dev nD) (trip : Fin 16 → Trip F) (hdev : ∀ j, (trip j).1 = j)
    (P₀ : sProp 𝕄) [BI.Persistent P₀] (A B : Fin 16 → sProp 𝕄) (C : List (Fin 16) → sProp 𝕄)
    (step : StepOk c trip P₀ A B C) (skip : ∀ l, C (c :: l) ⊢ C l) (k : P F α) (Q : α → sProp 𝕄) :
    iprop(P₀ ∗ bigSep (others c) A ∗ C (List.finRange 16)) ⊢
      iprop(((bigSep (others c) B ∗ C []) -∗ wp frame (wpE (defs₀ (F := F)) 𝒱₀ (c : Thread nD τ) none) Set.univ k Q)
        -∗ wp frame (wpE (defs₀ (F := F)) 𝒱₀ (c : Thread nD τ) none) Set.univ (run c ((List.finRange 16).map trip) k) Q) := by
  rw [← during_all c A B]
  exact wp_run c trip hdev P₀ A B C step skip k Q _ (List.nodup_finRange 16)

/-! ## The device's debts along a loop -/

/-- The device owes `O` beside the trips left. -/
def oweC (c : Dev nD) (O : CellTallies nD τ sig Unit) (t : Fin 16 → CellTallies nD τ sig Unit) (l : List (Fin 16)) :
    sProp 𝕄 :=
  iprop(∃ W, owes (c : Thread nD τ) (O + ∑ j ∈ others c, if j ∈ l then t j else 0) W)

/-- The device owes `O`. -/
def oweO (c : Dev nD) (O : CellTallies nD τ sig Unit) : sProp 𝕄 := iprop(∃ W, owes (c : Thread nD τ) O W)

theorem oweC_all (c : Dev nD) (O : CellTallies nD τ sig Unit) (t : Fin 16 → CellTallies nD τ sig Unit) :
    (oweC c O t (List.finRange 16) : sProp 𝕄) = oweO c (O + ∑ j ∈ others c, t j) := by
  unfold oweC oweO
  rw [Finset.sum_congr rfl fun j _ => if_pos (List.mem_finRange j)]

theorem oweC_none (c : Dev nD) (O : CellTallies nD τ sig Unit) (t : Fin 16 → CellTallies nD τ sig Unit) :
    (oweC c O t [] : sProp 𝕄) = oweO c O := by
  unfold oweC oweO
  rw [Finset.sum_congr rfl fun j _ => if_neg List.not_mem_nil, Finset.sum_const_zero, add_zero]

theorem oweC_skip (c : Dev nD) (O : CellTallies nD τ sig Unit) (t : Fin 16 → CellTallies nD τ sig Unit)
    (l : List (Fin 16)) : (oweC c O t (c :: l) : sProp 𝕄) ⊢ oweC c O t l := by
  unfold oweC
  rw [Finset.sum_congr rfl fun j hj => by
    have := mem_others.mp hj
    rw [show (if j ∈ c :: l then t j else 0) = if j ∈ l then t j else 0 by
      simp only [List.mem_cons, this, false_or]]]

/-- One trip's debt comes off. -/
theorem sum_cons {c : Dev nD} (O : CellTallies nD τ sig Unit) (t : Fin 16 → CellTallies nD τ sig Unit) {j : Fin 16}
    {l : List (Fin 16)} (hj : j ≠ c) (hl : j ∉ l) :
    (O + ∑ i ∈ others c, if i ∈ j :: l then t i else 0) = (O + ∑ i ∈ others c, if i ∈ l then t i else 0) + t j := by
  rw [← Finset.add_sum_erase _ _ (mem_others.mpr hj), ← Finset.add_sum_erase (others c) (fun i => if i ∈ l then t i else 0)
    (mem_others.mpr hj), if_pos List.mem_cons_self, if_neg hl, zero_add, add_assoc]
  congr 1
  rw [add_comm]
  congr 1
  refine Finset.sum_congr rfl fun i hi => ?_
  have := Finset.ne_of_mem_erase hi
  simp only [List.mem_cons, this, false_or]

end AllReduce
-- ==== Proof.Trips.lean ====
/- What one trip of each loop does to what the devices hold. -/
module

public import proofs.«01_k».proof.Proof.Loops

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The protocol's records -/

/-- The cells of one device: its barrier cell, and its 128 transfer cells. -/
abbrev Kx : Type := Unit ⊕ (Fin 4 × Fin 2 × Fin 16)

def kcell : Dev nD × Kx → GSem nD τ sig
  | (c, .inl _) => barC c
  | (c, .inr (a, h, j)) => dmaC c a h j

/-- Every cell's invariant, under the names `K`, and that every cell is at its round. -/
def records (K : Dev nD × Kx → ℕ) : sProp 𝕄 :=
  iprop((bigSep Finset.univ fun x : Dev nD × Kx => cellInv ER (Rd m) (K x) (kcell x))
    ∗ bigSep Finset.univ fun x : Dev nD × Kx => reached ER (kcell x) 0)

instance records_persistent (K : Dev nD × Kx → ℕ) : BI.Persistent (records (F := F) m K) := by
  unfold records; infer_instance

theorem inv_at (K : Dev nD × Kx → ℕ) (x : Dev nD × Kx) :
    records (F := F) m K ⊢ cellInv ER (Rd m) (K x) (kcell x) := by
  unfold records
  iintro ⟨#H, -⟩
  have h : (bigSep Finset.univ fun x : Dev nD × Kx => (cellInv ER (Rd m) (K x) (kcell x) : sProp 𝕄)) ⊢
      cellInv ER (Rd m) (K x) (kcell x) := bigSep_elim (Finset.mem_univ x)
  iapply h; iexact H

theorem reached_at (K : Dev nD × Kx → ℕ) (x : Dev nD × Kx) :
    records (F := F) m K ⊢ reached ER (kcell x) 0 := by
  unfold records
  iintro ⟨-, #H⟩
  have h : (bigSep Finset.univ fun x : Dev nD × Kx => (reached ER (kcell x) 0 : sProp 𝕄)) ⊢ reached ER (kcell x) 0 :=
    bigSep_elim (Finset.mem_univ x)
  iapply h; iexact H

/-- What every device knows throughout: the records and the levels. -/
def facts (K : Dev nD × Kx → ℕ) : sProp 𝕄 := iprop(records m K ∗ levAts L lv)

instance facts_persistent (K : Dev nD × Kx → ℕ) : BI.Persistent (facts (F := F) m K) := by
  unfold facts; infer_instance

variable (K : Dev nD × Kx → ℕ)

/-! ## The signals -/

/-- A signal to `j` hands `j` its slots in this device's receiving buffers. -/
theorem hail_step (c : Dev nD) (O : CellTallies nD τ sig Unit) :
    StepOk (F := F) c (hail c) (facts m K) (fun j => iprop(dutyTok ER (barC j) 0 c ∗ barPay j c)) (fun _ => iprop(emp))
      (oweC c O fun j => tallyAt (barC j) () 1) := by
  intro j l hj hl α k Q
  unfold oweC hail facts
  simp only [semSignalWord, Prog.lift, Prog.bind_op, Prog.bind_ret]
  iintro ⟨⟨#HR, -⟩, ⟨Ht, Hp⟩, %W, HO⟩ Hk
  rw [sum_cons O _ hj hl]
  iapply (Rounds.wp_signal 𝒱₀ ER (Rd m) (c : Thread nD τ) none (dst := ((j : Dev nD) : Thread nD τ)) (κ := K (j, .inl ()))
      (d := c) (r := 0) (by rw [duties_bar]; exact mem_others.mpr (fun h => hj h.symm)) ((amount_bar m j c).trans (by decide)) () _ rfl)
    $$ [HO Ht Hp]
  · isplitr; · iapply (inv_at m K (j, .inl ())); iexact HR
    isplitl [HO]; · iexact HO
    isplitl [Ht]; · iexact Ht
    isplitl [Hp]; · rw [pay_bar]; iexact Hp
    iapply (reached_at m K (j, .inl ())); iexact HR
  iintro HO
  iapply Hk
  isplitr; · iempintro
  iexists W; iexact HO

/-- The wait on the barrier: every other device has handed over this device's slots in its buffers. -/
theorem barrier_wait (c : Dev nD) (O : CellTallies nD τ sig Unit) (hO : Above 1 O) {α : Type} (k : PUnit → P F α)
    (Q : α → sProp 𝕄) :
    iprop(facts m K ∗ cred (tallyAt (barC c) () 15) ∗ atPos ER (barC c) 0 ∅ 0 ∗ oweO c O) ⊢
      iprop(((bigSep (others c) (fun d => barPay c d) ∗ semVal (barC c) 0 ∗ oweO c O)
          -∗ wp frame (wpE (defs₀ (F := F)) 𝒱₀ (c : Thread nD τ) none) Set.univ (k ⟨⟩) Q)
        -∗ wp frame (wpE (defs₀ (F := F)) 𝒱₀ (c : Thread nD τ) none) Set.univ (semWaitWord barS 15#32 >>= k) Q) := by
  unfold facts oweO
  simp only [semWaitWord, Prog.lift, Prog.bind_op, Prog.bind_ret]
  iintro ⟨⟨#HR, #HL⟩, Hc, Hat, %W, HO⟩ Hk
  iapply (Rounds.wp_wait_rest_token 𝒱₀ ER (Rd m) (c : Thread nD τ) none (κ := K (c, .inl ()))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait c (.reg barS) hO); iexact HL
    iexact Hat
  iintro ⟨HO, Hat, -, Hpay⟩
  imod (Rounds.cell_close ER (Rd m) (g := barC c) (Set.mem_univ (K (c, .inl ()))) (fun h => h) (R := 0 + 1)
    (duties_later m (barC c))) $$ [Hat] with Hz
  · isplitr; · iapply (inv_at m K (c, .inl ())); iexact HR
    iexact Hat
  iapply Hk
  isplitl [Hpay]; · iapply (Entails.of_eq (rest_bar m c)); iexact Hpay
  isplitl [Hz]; · iexact Hz
  iexists _; iexact HO

/-! ## The waits on transfers -/

/-- A wait on a transfer cell of this device that is for another: what the transfer brings. -/
theorem dma_wait (c : Dev nD) (O : CellTallies nD τ sig Unit) (a : Fin 4) (h : Fin 2) (j : Fin 16) (hj : j ≠ c)
    (hO : Above (level (.dma (cl a h j) : SemLoc sig)) O) {q : DmaSem sig} (hq : q = cl a h j)
    {src dst : Memref sig .tc .vmem S16x512 .bf16} {hs : src.view.WordExact} {hd : dst.view.WordExact}
    (hN : dst.view.dmaCredit = N) {α : Type} (k : PUnit → P F α) (Q : α → sProp 𝕄) :
    iprop(facts m K ∗ (cred (tallyAt (dmaC c a h j) () N) ∗ atPos ER (dmaC c a h j) 0 ∅ 0) ∗ oweO c O) ⊢
      iprop((((dmaPay m c a.val h j ∗ semVal (dmaC c a h j) 0) ∗ oweO c O)
          -∗ wp frame (wpE (defs₀ (F := F)) 𝒱₀ (c : Thread nD τ) none) Set.univ (k ⟨⟩) Q)
        -∗ wp frame (wpE (defs₀ (F := F)) 𝒱₀ (c : Thread nD τ) none) Set.univ
          ((Prog.lift (.waitDma2 q src dst hs hd) : P F PUnit) >>= k) Q) := by
  subst hq
  unfold facts oweO
  simp only [Prog.lift, Prog.bind_op, Prog.bind_ret]
  iintro ⟨⟨#HR, #HL⟩, ⟨Hc, Hat⟩, %W, HO⟩ Hk
  iapply (Rounds.wp_wait_rest_token 𝒱₀ ER (Rd m) (c : Thread nD τ) none (κ := K (c, .inr (a, h, j)))
      (wpE_waitDma2_eq 𝒱₀ (c : Thread nD τ) none Set.univ) (Set.mem_univ _) () (O := O) (W := W) (R := 0) (m := 0) (T := ∅)
      (by rw [expect_dma m c a h j hj, hN, Nat.zero_add])) $$ [Hc HO Hat]
  · isplitr; · iapply (inv_at m K (c, .inr (a, h, j))); iexact HR
    isplitl [Hc]; · rw [hN]; iexact Hc
    isplitl [HO]; · iexact HO
    isplitr; · iapply (mayWait c (.dma (cl a h j)) hO); iexact HL
    iexact Hat
  iintro ⟨HO, Hat, -, Hpay⟩
  imod (Rounds.cell_close ER (Rd m) (g := dmaC c a h j) (Set.mem_univ (K (c, .inr (a, h, j)))) (fun h => h) (R := 0 + 1)
    (duties_later m (dmaC c a h j))) $$ [Hat] with Hz
  · isplitr; · iapply (inv_at m K (c, .inr (a, h, j))); iexact HR
    iexact Hat
  iapply Hk
  isplitr [HO]
  · isplitl [Hpay]; · iapply (Entails.of_eq (rest_dma m c a h j hj)); iexact Hpay
    iexact Hz
  iexists _; iexact HO

theorem credit_slot (b : Memref sig .tc .vmem S16x2x16x512 .bf16) (a : Fin 16) (h : Fin 2) :
    (slot b a h).view.dmaCredit = N := rfl

/-- The loop's holdings around a wait on its cells. -/
def waiting (c : Dev nD) (a : Fin 4) (h : Fin 2) (j : Fin 16) : sProp 𝕄 :=
  iprop(cred (tallyAt (dmaC c a h j) () N) ∗ atPos ER (dmaC c a h j) 0 ∅ 0)

def waited (c : Dev nD) (a : Fin 4) (h : Fin 2) (j : Fin 16) : sProp 𝕄 :=
  iprop(dmaPay m c a.val h j ∗ semVal (dmaC c a h j) 0)

theorem rsLeft_step (c : Dev nD) (O : CellTallies nD τ sig Unit) (hO : Above 0 O) (h : Fin 2) :
    StepOk (F := F) c (rsLeft c h) (facts m K) (waiting c 0 h) (waited m c 0 h) (fun _ => oweO c O) := by
  intro j l hj hl α k Q
  exact dma_wait m K c O 0 h j hj (by rw [level_cl]; exact hO) (cell3 h j)
    (credit_slot stM j h) k Q

theorem rsRecv_step (c : Dev nD) (O : CellTallies nD τ sig Unit) (hO : Above 2 O) (h : Fin 2) :
    StepOk (F := F) c (rsRecv h) (facts m K) (waiting c 1 h) (waited m c 1 h) (fun _ => oweO c O) := by
  intro j l hj hl α k Q
  exact dma_wait m K c O 1 h j hj (by rw [level_cl]; exact hO) (cell4 h j)
    (credit_slot rcM j h) k Q

theorem agLeft_step (c : Dev nD) (O : CellTallies nD τ sig Unit) (hO : Above 0 O) (h : Fin 2) :
    StepOk (F := F) c (agLeft c h) (facts m K) (waiting c 2 h) (waited m c 2 h) (fun _ => oweO c O) := by
  intro j l hj hl α k Q
  exact dma_wait m K c O 2 h j hj (by rw [level_cl]; exact hO) (cell5 h j)
    (credit_slot gaM (me c) h) k Q

theorem agRecv_step (c : Dev nD) (O : CellTallies nD τ sig Unit) (hO : Above 3 O) (h : Fin 2) :
    StepOk (F := F) c (agRecv h) (facts m K) (waiting c 3 h) (waited m c 3 h) (fun _ => oweO c O) := by
  intro j l hj hl α k Q
  exact dma_wait m K c O 3 h j hj (by rw [level_cl]; exact hO) (cell6 h j)
    (credit_slot gaM j h) k Q

/-! ## The copies -/

theorem amount_slot (b : Memref sig .tc .vmem S16x2x16x512 .bf16) (a : Fin 16) (h : Fin 2) (q : DmaSem sig) :
    (slot b a h).view.amount (.dma q) = N := rfl

/-- A copy of the first exchange: this device's slot `(j, h)` to slot `(c, h)` of `j`'s receiving buffer. -/
theorem rs_copy (c : Dev nD) (O : CellTallies nD τ sig Unit) (h : Fin 2) (j : Fin 16) (hj : j ≠ c)
    {a : Fin 16} (ha : a = c) {qs qr : DmaSem sig} (hqs : qs = cl 0 h j) (hqr : qr = cl 1 h c)
    {hsc : (slot rcM a h).view.ref.isScScratch = false}
    {hs : (slot stM j h).view.WordExact} {hd : (slot rcM a h).view.WordExact}
    {ht : DmaTarget.Typed .vmem (.dma qr) (.remote (Dev.tc (j : Dev nD) : Thread nD τ) (slot rcM a h) (.dma qs) hsc)}
    (W : Waits sig Unit) (fd : Held F) {α : Type} (k : PUnit → P F α) (Q : α → sProp 𝕄) :
    iprop(facts m K ∗ stP c j h (X m c) ∗ rcP j c h fd ∗ owes (c : Thread nD τ) (O + tallyAt (dmaC j 1 h c) () N) W
        ∗ dutyTok ER (dmaC c 0 h j) 0 0 ∗ dutyTok ER (dmaC j 1 h c) 0 0) ⊢
      iprop(((cred (tallyAt (dmaC c 0 h j) () N) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slot stM j h) (.remote (Dev.tc (j : Dev nD) : Thread nD τ) (slot rcM a h) (.dma qs) hsc)
            (.dma qr) hs hd ht) k) Q) := by
  subst ha hqs hqr
  unfold facts stP rcP
  rw [← st_set, ← rc_set]
  iintro ⟨⟨#HR, -⟩, Hs, Hd, HO, Ht1, Ht2⟩ Hk
  iapply (Rounds.wp_send_pointsTo 𝒱₀ ER (Rd m) (a : Thread nD τ) none (κ₁ := K (a, .inr (0, h, j))) (κ₂ := K (j, .inr (1, h, a)))
    (r₁ := 0) (r₂ := 0) (d₁ := 0) (d₂ := 0) (fd := fd) (fs := X m a) (q := fullShare)
    (by rw [duties_dma m a 0 h j hj]; exact Finset.mem_singleton_self _)
    (by rw [duties_dma m j 1 h a (fun e => hj e.symm)]; exact Finset.mem_singleton_self _)
    () () N (amount_slot rcM a h _) (amount_dma m a 0 h j 0) (amount_dma m j 1 h a 0) O rfl (W := W)
    (by rw [pay_dma, st_set]; exact Entails.of_eq rfl)
    (by
      rw [pay_dma, rc_set]
      show _ ⊢ rcP j a h (R m j)
      unfold rcP
      exact Entails.of_eq (pointsTo_congr fun i hi => by
        have := rs_landed j a h h fd (X m a) i hi
        refine this.trans ?_
        obtain ⟨h0, h1⟩ := mem_I.mp hi
        have e0 : i 0 = a := Fin.ext h0
        have e1 : i 1 = h := Fin.ext h1
        show X m a (move j h i) = X m (i 0) (move j (i 1) i)
        rw [e0, e1]))) $$ [Hs Hd HO Ht1 Ht2]
  · isplitr; · iapply (inv_at m K (a, .inr (0, h, j))); iexact HR
    isplitr; · iapply (inv_at m K (j, .inr (1, h, a))); iexact HR
    isplitl [Hs]; · iexact Hs
    isplitl [Hd]; · iexact Hd
    isplitl [HO]; · iexact HO
    isplitl [Ht1]; · iexact Ht1
    isplitr; · iapply (reached_at m K (a, .inr (0, h, j))); iexact HR
    isplitl [Ht2]; · iexact Ht2
    iapply (reached_at m K (j, .inr (1, h, a))); iexact HR
  iexact Hk

/-- A copy of the second exchange: this device's own slot `(c, h)` to the same slot of `j`'s buffer. -/
theorem ag_copy (c : Dev nD) (O : CellTallies nD τ sig Unit) (h : Fin 2) (j : Fin 16) (hj : j ≠ c)
    {a : Fin 16} (ha : a = c) {qs qr : DmaSem sig} (hqs : qs = cl 2 h j) (hqr : qr = cl 3 h c)
    {hsc : (slot gaM a h).view.ref.isScScratch = false}
    {hs : (slot gaM a h).view.WordExact} {hd : (slot gaM a h).view.WordExact}
    {ht : DmaTarget.Typed .vmem (.dma qr) (.remote (Dev.tc (j : Dev nD) : Thread nD τ) (slot gaM a h) (.dma qs) hsc)}
    (W : Waits sig Unit) (fd : Held F) {α : Type} (k : PUnit → P F α) (Q : α → sProp 𝕄) :
    iprop(facts m K ∗ gaP c (lent c j) c h (G m) ∗ gaP j fullShare c h fd ∗ owes (c : Thread nD τ) (O + tallyAt (dmaC j 3 h c) () N) W
        ∗ dutyTok ER (dmaC c 2 h j) 0 0 ∗ dutyTok ER (dmaC j 3 h c) 0 0) ⊢
      iprop(((cred (tallyAt (dmaC c 2 h j) () N) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slot gaM a h) (.remote (Dev.tc (j : Dev nD) : Thread nD τ) (slot gaM a h) (.dma qs) hsc)
            (.dma qr) hs hd ht) k) Q) := by
  subst ha hqs hqr
  unfold facts gaP
  rw [← ga_set]
  iintro ⟨⟨#HR, -⟩, Hs, Hd, HO, Ht1, Ht2⟩ Hk
  iapply (Rounds.wp_send_pointsTo 𝒱₀ ER (Rd m) (a : Thread nD τ) none (κ₁ := K (a, .inr (2, h, j))) (κ₂ := K (j, .inr (3, h, a)))
    (r₁ := 0) (r₂ := 0) (d₁ := 0) (d₂ := 0) (fd := fd) (fs := G m) (q := lent a j)
    (by rw [duties_dma m a 2 h j hj]; exact Finset.mem_singleton_self _)
    (by rw [duties_dma m j 3 h a (fun e => hj e.symm)]; exact Finset.mem_singleton_self _)
    () () N (amount_slot gaM a h _) (amount_dma m a 2 h j 0) (amount_dma m j 3 h a 0) O rfl (W := W)
    (by rw [pay_dma, ga_set]; exact Entails.of_eq rfl)
    (by
      rw [pay_dma, ga_set]
      show _ ⊢ gaP j fullShare a h (G m)
      unfold gaP
      exact Entails.of_eq (pointsTo_congr fun i hi => ag_landed a h fd (G m) i hi))) $$ [Hs Hd HO Ht1 Ht2]
  · isplitr; · iapply (inv_at m K (a, .inr (2, h, j))); iexact HR
    isplitr; · iapply (inv_at m K (j, .inr (3, h, a))); iexact HR
    isplitl [Hs]; · iexact Hs
    isplitl [Hd]; · iexact Hd
    isplitl [HO]; · iexact HO
    isplitl [Ht1]; · iexact Ht1
    isplitr; · iapply (reached_at m K (a, .inr (2, h, j))); iexact HR
    isplitl [Ht2]; · iexact Ht2
    iapply (reached_at m K (j, .inr (3, h, a))); iexact HR
  iexact Hk

/-- What the first exchange's copy to `j` takes. -/
def rsBefore (c : Dev nD) (h : Fin 2) (j : Fin 16) : sProp 𝕄 :=
  iprop(stP c j h (X m c) ∗ (∃ f, rcP j c h f) ∗ dutyTok ER (dmaC c 0 h j) 0 0 ∗ dutyTok ER (dmaC j 1 h c) 0 0)

/-- What the second exchange's copy to `j` takes. -/
def agBefore (c : Dev nD) (h : Fin 2) (j : Fin 16) : sProp 𝕄 :=
  iprop(gaP c (lent c j) c h (G m) ∗ (∃ f, gaP j fullShare c h f) ∗ dutyTok ER (dmaC c 2 h j) 0 0
    ∗ dutyTok ER (dmaC j 3 h c) 0 0)

theorem rsSend_step (c : Dev nD) (O : CellTallies nD τ sig Unit) (h : Fin 2) :
    StepOk (F := F) c (rsSend c h) (facts m K) (rsBefore m c h) (fun j => cred (tallyAt (dmaC c 0 h j) () N))
      (oweC c O fun j => tallyAt (dmaC j 1 h c) () N) := by
  intro j l hj hl α k Q
  unfold oweC rsBefore rsSend
  simp only [Prog.lift, Prog.bind_op, Prog.bind_ret]
  rw [sum_cons O _ hj hl]
  iintro ⟨#HF, ⟨Hs, ⟨%fd, Hd⟩, Ht1, Ht2⟩, %W, HO⟩ Hk
  iapply (rs_copy m K c _ h j hj (me_eq c) (cell3 h j) ((cell4 h (me c)).trans (by rw [me_eq])) W fd k Q) $$ [Hs Hd HO Ht1 Ht2]
  · isplitr; · iexact HF
    isplitl [Hs]; · iexact Hs
    isplitl [Hd]; · iexact Hd
    isplitl [HO]; · iexact HO
    isplitl [Ht1] <;> iassumption
  iintro ⟨Hc, HO⟩
  iapply Hk
  isplitl [Hc]; · iexact Hc
  iexists W; iexact HO

theorem agSend_step (c : Dev nD) (O : CellTallies nD τ sig Unit) (h : Fin 2) :
    StepOk (F := F) c (agSend c h) (facts m K) (agBefore m c h) (fun j => cred (tallyAt (dmaC c 2 h j) () N))
      (oweC c O fun j => tallyAt (dmaC j 3 h c) () N) := by
  intro j l hj hl α k Q
  unfold oweC agBefore agSend
  simp only [Prog.lift, Prog.bind_op, Prog.bind_ret]
  rw [sum_cons O _ hj hl]
  iintro ⟨#HF, ⟨Hs, ⟨%fd, Hd⟩, Ht1, Ht2⟩, %W, HO⟩ Hk
  iapply (ag_copy m K c _ h j hj (me_eq c) (cell5 h j) ((cell6 h (me c)).trans (by rw [me_eq])) W fd k Q) $$ [Hs Hd HO Ht1 Ht2]
  · isplitr; · iexact HF
    isplitl [Hs]; · iexact Hs
    isplitl [Hd]; · iexact Hd
    isplitl [HO]; · iexact HO
    isplitl [Ht1] <;> iassumption
  iintro ⟨Hc, HO⟩
  iapply Hk
  isplitl [Hc]; · iexact Hc
  iexists W; iexact HO

end AllReduce
-- ==== Proof.Pieces.lean ====
/- The loads and stores between the loops. -/
module

public import proofs.«01_k».proof.Proof.Trips

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Whole buffers and their slots -/

/-- A points-to on a set that is a disjoint union is the points-tos on the parts. -/
theorem pts_parts {T : Type} (ℓ : Loc nD τ sig) (S : Finset T) (Kf : T → Finset (Idx ℓ)) (U : Finset (Idx ℓ))
    (hU : ∀ i, i ∈ U ↔ ∃ t ∈ S, i ∈ Kf t) (hd : ∀ t ∈ S, ∀ t' ∈ S, t ≠ t' → Disjoint (Kf t) (Kf t'))
    (q : PosShare TreeShare) (f : Buf (Elt F) ℓ) :
    ((ℓ ↦[U]{q} f) : sProp 𝕄) = bigSep S fun t => ℓ ↦[Kf t]{q} f := by
  rw [← pointsTo_biUnion S Kf hd, show U = S.biUnion Kf from Finset.ext fun i => by rw [hU, Finset.mem_biUnion]]

/-- Both halves of slot `a`. -/
def J (a : Fin 16) : Finset Ix := Finset.univ.filter fun i => (i 0).val = a.val
/-- One half of every slot. -/
def Hf (h : Fin 2) : Finset Ix := Finset.univ.filter fun i => (i 1).val = h.val

theorem mem_J {a : Fin 16} {i : Ix} : i ∈ J a ↔ (i 0).val = a.val := by simp [J]
theorem mem_Hf {h : Fin 2} {i : Ix} : i ∈ Hf h ↔ (i 1).val = h.val := by simp [Hf]

theorem J_parts (a : Fin 16) (i : Ix) : i ∈ J a ↔ ∃ h ∈ (Finset.univ : Finset (Fin 2)), i ∈ I a h := by
  rw [mem_J]
  exact ⟨fun hi => ⟨i 1, Finset.mem_univ _, mem_I.mpr ⟨hi, rfl⟩⟩, fun ⟨h, _, hi⟩ => (mem_I.mp hi).1⟩

theorem Hf_parts (h : Fin 2) (i : Ix) : i ∈ Hf h ↔ ∃ a ∈ (Finset.univ : Finset (Fin 16)), i ∈ I a h := by
  rw [mem_Hf]
  exact ⟨fun hi => ⟨i 0, Finset.mem_univ _, mem_I.mpr ⟨rfl, hi⟩⟩, fun ⟨a, _, hi⟩ => (mem_I.mp hi).2⟩

theorem all_parts (i : Ix) : i ∈ (Finset.univ : Finset Ix) ↔ ∃ p ∈ (Finset.univ : Finset (Fin 16 × Fin 2)), i ∈ I₂ p :=
  ⟨fun _ => (I_cover i).imp fun p hp => ⟨Finset.mem_univ _, hp⟩, fun _ => Finset.mem_univ _⟩

theorem J_disjoint (a : Fin 16) (h : Fin 2) (_ : h ∈ (Finset.univ : Finset (Fin 2))) (h' : Fin 2)
    (_ : h' ∈ (Finset.univ : Finset (Fin 2))) (e : h ≠ h') : Disjoint (I a h) (I a h') :=
  I_disjoint (a, h) (a, h') fun E => e (congrArg Prod.snd E)

theorem Hf_disjoint (h : Fin 2) (a : Fin 16) (_ : a ∈ (Finset.univ : Finset (Fin 16))) (a' : Fin 16)
    (_ : a' ∈ (Finset.univ : Finset (Fin 16))) (e : a ≠ a') : Disjoint (I a h) (I a' h) :=
  I_disjoint (a, h) (a', h) fun E => e (congrArg Prod.fst E)

/-- Both halves of a slot together. -/
theorem rc_J (c : Dev nD) (a : Fin 16) (f : Held F) :
    ((rcL c ↦[J a]{fullShare} (f : Buf (Elt F) (rcL c))) : sProp 𝕄) = bigSep Finset.univ fun h : Fin 2 => rcP c a h f :=
  pts_parts (rcL c) Finset.univ (fun h : Fin 2 => I a h) (J a) (J_parts a) (J_disjoint a) fullShare f

theorem st_J (c : Dev nD) (a : Fin 16) (f : Held F) :
    ((stL c ↦[J a]{fullShare} (f : Buf (Elt F) (stL c))) : sProp 𝕄) = bigSep Finset.univ fun h : Fin 2 => stP c a h f :=
  pts_parts (stL c) Finset.univ (fun h : Fin 2 => I a h) (J a) (J_parts a) (J_disjoint a) fullShare f

/-- One half of every slot together. -/
theorem rc_Hf (c : Dev nD) (h : Fin 2) (f : Held F) :
    ((rcL c ↦[Hf h]{fullShare} (f : Buf (Elt F) (rcL c))) : sProp 𝕄) = bigSep Finset.univ fun a : Fin 16 => rcP c a h f :=
  pts_parts (rcL c) Finset.univ (fun a : Fin 16 => I a h) (Hf h) (Hf_parts h) (Hf_disjoint h) fullShare f

theorem st_whole (c : Dev nD) (f : Held F) :
    ((stL c ↦{fullShare} (f : Buf (Elt F) (stL c))) : sProp 𝕄) =
      bigSep Finset.univ fun a : Fin 16 => bigSep Finset.univ fun h : Fin 2 => stP c a h f := by
  rw [← bigSep_univ_prod fun p : Fin 16 × Fin 2 => stP c p.1 p.2 f]
  exact pts_parts (stL c) Finset.univ I₂ Finset.univ all_parts (fun p _ p' _ => I_disjoint p p') fullShare f

theorem rc_whole (c : Dev nD) (f : Held F) :
    ((rcL c ↦{fullShare} (f : Buf (Elt F) (rcL c))) : sProp 𝕄) =
      bigSep Finset.univ fun a : Fin 16 => bigSep Finset.univ fun h : Fin 2 => rcP c a h f := by
  rw [← bigSep_univ_prod fun p : Fin 16 × Fin 2 => rcP c p.1 p.2 f]
  exact pts_parts (rcL c) Finset.univ I₂ Finset.univ all_parts (fun p _ p' _ => I_disjoint p p') fullShare f

theorem ga_whole (c : Dev nD) (f : Held F) :
    ((gaL c ↦{fullShare} (f : Buf (Elt F) (gaL c))) : sProp 𝕄) =
      bigSep Finset.univ fun a : Fin 16 => bigSep Finset.univ fun h : Fin 2 => gaP c fullShare a h f := by
  rw [← bigSep_univ_prod fun p : Fin 16 × Fin 2 => gaP c fullShare p.1 p.2 f]
  exact pts_parts (gaL c) Finset.univ I₂ Finset.univ all_parts (fun p _ p' _ => I_disjoint p p') fullShare f

/-- A slot dealt into the fifteen shares lent to the copies. -/
theorem ga_lent (c : Dev nD) (h : Fin 2) (f : Held F) :
    (gaP c fullShare c h f : sProp 𝕄) = bigSep (others c) fun j => gaP c (lent c j) c h f :=
  Transfers.pointsTo_deal (others c) (others_nonempty c) fullShare

/-! ## The staging buffers -/

abbrev xL (c : Dev nD) : Loc nD τ sig := (c : Thread nD τ).loc cc0_stg0_0
abbrev resL (c : Dev nD) : Loc nD τ sig := (c : Thread nD τ).loc cc0_stg1_0
abbrev gamL (c : Dev nD) : Loc nD τ sig := (c : Thread nD τ).loc cc0_stg2_0
abbrev outL (c : Dev nD) : Loc nD τ sig := (c : Thread nD τ).loc cc0_stg3_0

def xP (c : Dev nD) : sProp 𝕄 := xL c ↦{fullShare} (xAt m c : Buf (Elt F) (xL c))
def resP (c : Dev nD) : sProp 𝕄 := resL c ↦{fullShare} (resAt m c : Buf (Elt F) (resL c))
def gamP (c : Dev nD) : sProp 𝕄 := gamL c ↦{fullShare} (gamAt m c : Buf (Elt F) (gamL c))
def outP (c : Dev nD) (f : Vec F S512x512 .f32) : sProp 𝕄 := outL c ↦{fullShare} (f : Buf (Elt F) (outL c))

theorem off1 : (![0] : Fin 1 → ℕ) = fun _ => 0 := funext fun a => by fin_cases a <;> rfl
theorem off2 : (![0, 0] : Fin 2 → ℕ) = fun _ => 0 := funext fun a => by fin_cases a <;> rfl
theorem off3 : (![0, 0, 0] : Fin 3 → ℕ) = fun _ => 0 := funext fun a => by fin_cases a <;> rfl
theorem off4 : (![0, 0, 0, 0] : Fin 4 → ℕ) = fun _ => 0 := funext fun a => by fin_cases a <;> rfl

/-! ## The pieces -/

abbrev rX : Rect S1x512x512 := Rect.unit (s := S1x512x512) ![0, 0, 0] S1x512x512.size inb_S1x512x512_S1x512x512_0_0_0
abbrev rAll : Rect S16x2x16x512 :=
  Rect.unit (s := S16x2x16x512) ![0, 0, 0, 0] S16x2x16x512.size inb_S16x2x16x512_S16x2x16x512_0_0_0_0
abbrev rOwn (c : Dev nD) : Rect S16x2x16x512 :=
  Rect.unit (s := S16x2x16x512) (k0_off65 c) S1x2x16x512.size (k0_off65_inb c)
abbrev rHalf (h : Fin 2) : Rect S16x2x16x512 :=
  Rect.unit (s := S16x2x16x512) ![0, h.val, 0, 0] S16x1x16x512.size (half_inb h)
abbrev rRes (c : Dev nD) (h : Fin 2) : Rect S512x512 :=
  Rect.unit (s := S512x512) (k0_off66 c (BitVec.ofNat 32 (16 * h.val))) S16x512.size (k0_off66_inb c h)
abbrev rGam : Rect S512 := Rect.unit (s := S512) ![0] S512.size inb_S512_S512_0
abbrev rSlot (a : Fin 16) (h : Fin 2) : Rect S16x2x16x512 :=
  Rect.unit (s := S16x2x16x512) ![a.val, h.val, 0, 0] S1x1x16x512.size (slot_inb a h)
abbrev rOut : Rect S512x512 := Rect.unit (s := S512x512) ![0, 0] S512x512.size inb_S512x512_S512x512_0_0

/-- The block laid out by destination. -/
theorem wp_stage (c : Dev nD) (f : Held F) {α : Type} (k : P F α) (Q : α → sProp 𝕄) :
    iprop(xP m c ∗ stL c ↦{fullShare} (f : Buf (Elt F) (stL c))) ⊢
      iprop(((xP m c ∗ stL c ↦{fullShare} (X m c : Buf (Elt F) (stL c)))
          -∗ wp frame (wpE (defs₀ (F := F)) 𝒱₀ (c : Thread nD τ) none) Set.univ k Q)
        -∗ wp frame (wpE (defs₀ (F := F)) 𝒱₀ (c : Thread nD τ) none) Set.univ (stage k) Q) := by
  unfold stage xP
  simp only [Prog.lift, Prog.bind_op, Prog.bind_ret]
  iintro ⟨Hx, Hs⟩ Hk
  iapply (wp_load_rect 𝒱₀ (c : Thread nD τ) none Set.univ (m := xM) (r := rX) (Finset.subset_univ _)) $$ Hx; iintro Hx
  iapply (wp_load_rect 𝒱₀ (c : Thread nD τ) none Set.univ (m := stM) (r := rAll) (Finset.subset_univ _)) $$ Hs; iintro Hs
  iapply (wp_store 𝒱₀ (c : Thread nD τ) none Set.univ (m := stM) (r := rAll) (Finset.subset_univ _)) $$ Hs; iintro Hs
  iapply Hk
  isplitl [Hx]; · iexact Hx
  iapply (Entails.of_eq (congrArg (fun g : Held F => ((stL c ↦{fullShare} (g : Buf (Elt F) (stL c))) : sProp 𝕄))
    ((Memref.write_access_unit_zero_univ (Elt F) cc0_scratch0 off4 inb_S16x2x16x512_S16x2x16x512_0_0_0_0 f _).trans
      (congrArg k0_pay2 (Memref.read_access_unit_zero (Elt F) cc0_stg0_0 off3 inb_S1x512x512_S1x512x512_0_0_0 (xAt m c))))))
  iexact Hs

theorem own_mem (c : Dev nD) {off : Fin 4 → ℕ} (ho : off = ![c.val, 0, 0, 0])
    (hb : ∀ a, off a + S1x2x16x512.size a ≤ S16x2x16x512.size a) {i : Ix} (hi : i ∈ J c) :
    i ∈ (Rect.unit (s := S16x2x16x512) off S1x2x16x512.size hb).set := by
  subst ho
  rw [Rect.mem_set_unit]
  have h0 := mem_J.mp hi
  intro k
  fin_cases k
  · exact ⟨h0.ge, h0.trans_lt (Nat.lt_succ_self _)⟩
  · exact ⟨Nat.zero_le _, (i 1).isLt.trans_le (Nat.le_add_left _ _)⟩
  · exact ⟨Nat.zero_le _, (i 2).isLt.trans_le (Nat.le_add_left _ _)⟩
  · exact ⟨Nat.zero_le _, (i 3).isLt.trans_le (Nat.le_add_left _ _)⟩

theorem pay3_eq (v : Vec F S1x2x16x512 .bf16) : k0_pay3 v = v :=
  funext fun x => congrArg v (Shape.reshapeEquiv_self _ x)

/-- What the copy within the device leaves in its own slots. -/
theorem own_landed (c : Dev nD) (f g : Held F) (i : Ix) (hi : i ∈ J c) :
    (rcM.access (rOwn c)).write (Elt F) f (k0_pay3 ((stM.access (rOwn c)).read (Elt F) g)) Finset.univ i = g i := by
  have hm : i ∈ (rcM.access (rOwn c)).set := by
    rw [View.set_slice_whole]; exact own_mem c (k0_off65_eq c) _ hi
  obtain ⟨x, -, rfl⟩ := Finset.mem_map.mp hm
  rw [pay3_eq]
  exact View.write_emb_of_mem (v := rcM.access (rOwn c)) (Val := Elt F) f ((stM.access (rOwn c)).read (Elt F) g)
    (M := Finset.univ) (x := x) (Finset.mem_univ _)

theorem own_subset (c : Dev nD) {off : Fin 4 → ℕ} (ho : off = ![c.val, 0, 0, 0])
    (hb : ∀ a, off a + S1x2x16x512.size a ≤ S16x2x16x512.size a) :
    (Rect.unit (s := S16x2x16x512) off S1x2x16x512.size hb).set ⊆ J c := by
  subst ho
  intro i hi
  rw [Rect.mem_set_unit] at hi
  have h0 := hi 0
  simp at h0
  rw [mem_J]
  omega

/-- The device's own two slots copied from what it sends to what it receives. -/
theorem wp_own (c : Dev nD) (f : Held F) {α : Type} (k : P F α) (Q : α → sProp 𝕄) :
    iprop((bigSep Finset.univ fun h : Fin 2 => stP c c h (X m c)) ∗ bigSep Finset.univ fun h : Fin 2 => rcP c c h f) ⊢
      iprop((((bigSep Finset.univ fun h : Fin 2 => stP c c h (X m c)) ∗ bigSep Finset.univ fun h : Fin 2 => rcP c c h (R m c))
          -∗ wp frame (wpE (defs₀ (F := F)) 𝒱₀ (c : Thread nD τ) none) Set.univ k Q)
        -∗ wp frame (wpE (defs₀ (F := F)) 𝒱₀ (c : Thread nD τ) none) Set.univ (own c k) Q) := by
  unfold own
  simp only [Prog.lift, Prog.bind_op, Prog.bind_ret]
  rw [← st_J, ← rc_J, ← rc_J]
  iintro ⟨Hs, Hr⟩ Hk
  iapply (wp_load_rect 𝒱₀ (c : Thread nD τ) none Set.univ (m := stM) (r := rOwn c)
    (by rw [View.set_slice_whole]; exact own_subset c (k0_off65_eq c) _)) $$ Hs; iintro Hs
  iapply (wp_load_rect 𝒱₀ (c : Thread nD τ) none Set.univ (m := rcM) (r := rOwn c)
    (by rw [View.set_slice_whole]; exact own_subset c (k0_off65_eq c) _)) $$ Hr; iintro Hr
  iapply (wp_store 𝒱₀ (c : Thread nD τ) none Set.univ (m := rcM) (r := rOwn c)
    (by rw [View.setOn_univ, View.set_slice_whole]; exact own_subset c (k0_off65_eq c) _)) $$ Hr; iintro Hr
  iapply Hk
  isplitl [Hs]; · iexact Hs
  iapply (Entails.of_eq (pointsTo_congr (ℓ := rcL c) (I := J c) (g := (R m c : Buf (Elt F) (rcL c))) fun i hi => by
    refine (own_landed c f (X m c) i hi).trans ?_
    have e : i 0 = c := Fin.ext (mem_J.mp hi)
    show X m c i = X m (i 0) (move c (i 1) i)
    rw [e, move_self (mem_I.mpr ⟨mem_J.mp hi, rfl⟩)]))
  iexact Hr

theorem half_subset (h : Fin 2) :
    (Rect.unit (s := S16x2x16x512) ![0, h.val, 0, 0] S16x1x16x512.size (half_inb h)).set ⊆ Hf h := by
  intro i hi
  rw [Rect.mem_set_unit] at hi
  have h1 := hi 1
  simp at h1
  rw [mem_Hf]
  omega

theorem slot_subset (a : Fin 16) (h : Fin 2) :
    (Rect.unit (s := S16x2x16x512) ![a.val, h.val, 0, 0] S1x1x16x512.size (slot_inb a h)).set ⊆ I a h := by
  intro i hi
  rw [Rect.mem_set_unit] at hi
  have h0 := hi 0
  have h1 := hi 1
  simp at h0 h1
  rw [mem_I]
  omega

theorem slot_mem (a : Fin 16) (h : Fin 2) {i : Ix} (hi : i ∈ I a h) : i ∈ (rSlot a h).set := by
  rw [Rect.mem_set_unit]
  obtain ⟨h0, h1⟩ := mem_I.mp hi
  intro k
  fin_cases k
  · exact ⟨h0.ge, h0.trans_lt (Nat.lt_succ_self _)⟩
  · exact ⟨h1.ge, h1.trans_lt (Nat.lt_succ_self _)⟩
  · exact ⟨Nat.zero_le _, (i 2).isLt.trans_le (Nat.le_add_left _ _)⟩
  · exact ⟨Nat.zero_le _, (i 3).isLt.trans_le (Nat.le_add_left _ _)⟩

theorem inSlot_emb (a : Fin 16) (h : Fin 2) (x : S1x1x16x512.Idx) : inSlot ((rSlot a h).emb x) = x := by
  funext k
  apply Fin.ext
  fin_cases k
  · exact (Nat.lt_one_iff.mp (x 0).isLt).symm
  · exact (Nat.lt_one_iff.mp (x 1).isLt).symm
  · show 0 + 1 * (x 2).val = (x 2).val
    omega
  · show 0 + 1 * (x 3).val = (x 3).val
    omega

/-- What the store of a slot's rows leaves there. -/
theorem slot_stored (a : Fin 16) (h : Fin 2) (f : Held F) (w : Vec F S1x1x16x512 .bf16) (i : Ix) (hi : i ∈ I a h) :
    (gaM.access (rSlot a h)).write (Elt F) f w Finset.univ i = w (inSlot i) := by
  have hm : i ∈ (gaM.access (rSlot a h)).set := by
    rw [View.set_slice_whole]; exact slot_mem a h hi
  obtain ⟨x, -, rfl⟩ := Finset.mem_map.mp hm
  refine (View.write_emb_of_mem (v := gaM.access (rSlot a h)) (Val := Elt F) f w (M := Finset.univ) (x := x)
    (Finset.mem_univ _)).trans ?_
  exact congrArg w (inSlot_emb a h x).symm

/-- The device's own slot, after its rows are stored. -/
theorem rows_stored (c : Dev nD) (h : Fin 2) (f : Held F) (i : Ix) (hi : i ∈ I c h) :
    (gaM.access (rSlot c h)).write (Elt F) f (k0_pay4 (halfOf h (R m c)) (resOf c h (resAt m c))
      ((gamM.access rGam).read (Elt F) (gamAt m c))) Finset.univ i = G m i := by
  refine (slot_stored c h f _ i hi).trans ?_
  obtain ⟨h0, h1⟩ := mem_I.mp hi
  have e0 : i 0 = c := Fin.ext h0
  have e1 : i 1 = h := Fin.ext h1
  show _ = rows m (i 0) (i 1) (inSlot i)
  rw [e0, e1]
  exact congrArg (fun g => k0_pay4 (halfOf h (R m c)) (resOf c h (resAt m c)) g (inSlot i))
    (Memref.read_access_unit_zero (Elt F) cc0_stg2_0 off1 inb_S512_S512_0 (gamAt m c))

/-- Half `h` of the device's rows, summed, normalised and kept. -/
theorem wp_norm (c : Dev nD) (h : Fin 2) (f : Held F) {α : Type} (k : P F α) (Q : α → sProp 𝕄) :
    iprop((bigSep Finset.univ fun a : Fin 16 => rcP c a h (R m c)) ∗ resP m c ∗ gamP m c ∗ gaP c fullShare c h f) ⊢
      iprop((((bigSep Finset.univ fun a : Fin 16 => rcP c a h (R m c)) ∗ resP m c ∗ gamP m c ∗ gaP c fullShare c h (G m))
          -∗ wp frame (wpE (defs₀ (F := F)) 𝒱₀ (c : Thread nD τ) none) Set.univ k Q)
        -∗ wp frame (wpE (defs₀ (F := F)) 𝒱₀ (c : Thread nD τ) none) Set.univ (norm c h k) Q) := by
  unfold norm
  rw [me_eq]
  unfold normIn
  simp only [Prog.lift, Prog.bind_op, Prog.bind_ret]
  rw [← rc_Hf]
  unfold resP gamP gaP
  iintro ⟨Hr, Hw, Hg, Hn⟩ Hk
  iapply (wp_load_rect 𝒱₀ (c : Thread nD τ) none Set.univ (m := rcM) (r := rHalf h)
    (by rw [View.set_slice_whole]; exact half_subset h)) $$ Hr; iintro Hr
  iapply (wp_load_rect 𝒱₀ (c : Thread nD τ) none Set.univ (m := resM) (r := rRes c h) (Finset.subset_univ _)) $$ Hw; iintro Hw
  iapply (wp_load_rect 𝒱₀ (c : Thread nD τ) none Set.univ (m := gamM) (r := rGam) (Finset.subset_univ _)) $$ Hg; iintro Hg
  iapply (wp_load_rect 𝒱₀ (c : Thread nD τ) none Set.univ (m := gaM) (r := rSlot c h)
    (by rw [View.set_slice_whole]; exact slot_subset c h)) $$ Hn; iintro Hn
  iapply (wp_store 𝒱₀ (c : Thread nD τ) none Set.univ (m := gaM) (r := rSlot c h)
    (by rw [View.setOn_univ, View.set_slice_whole]; exact slot_subset c h)) $$ Hn; iintro Hn
  iapply Hk
  isplitl [Hr]; · iexact Hr
  isplitl [Hw]; · iexact Hw
  isplitl [Hg]; · iexact Hg
  iapply (Entails.of_eq (pointsTo_congr (ℓ := gaL c) (I := I c h) (q := fullShare)
    (f := ((gaM.access (rSlot c h)).write (Elt F) f (k0_pay4 (halfOf h (R m c)) (resOf c h (resAt m c))
      ((gamM.access rGam).read (Elt F) (gamAt m c))) Finset.univ : Held F)) (g := (G m : Held F))
    fun i hi => rows_stored m c h f i hi))
  iexact Hn

/-- The result. -/
def outAt : Vec F S512x512 .f32 := k0_pay1 (G m)

/-- The normalised rows laid out as the result. -/
theorem wp_finish (c : Dev nD) (f : Vec F S512x512 .f32) (Q : PUnit → sProp 𝕄) :
    iprop((gaL c ↦{fullShare} (G m : Buf (Elt F) (gaL c))) ∗ outP c f) ⊢
      iprop((((gaL c ↦{fullShare} (G m : Buf (Elt F) (gaL c))) ∗ outP c (outAt m)) -∗ Q ⟨⟩)
        -∗ wp frame (wpE (defs₀ (F := F)) 𝒱₀ (c : Thread nD τ) none) Set.univ finish Q) := by
  unfold finish outP
  simp only [Prog.lift, Prog.bind_op, Prog.bind_ret, Prog.pure_eq_ret]
  iintro ⟨Hg, Ho⟩ Hk
  iapply (wp_load_rect 𝒱₀ (c : Thread nD τ) none Set.univ (m := gaM) (r := rAll) (Finset.subset_univ _)) $$ Hg; iintro Hg
  iapply (wp_load_rect 𝒱₀ (c : Thread nD τ) none Set.univ (m := outM) (r := rOut) (Finset.subset_univ _)) $$ Ho; iintro Ho
  iapply (wp_store 𝒱₀ (c : Thread nD τ) none Set.univ (m := outM) (r := rOut) (Finset.subset_univ _)) $$ Ho; iintro Ho
  rw [wp_ret]; imodintro
  iapply Hk
  isplitl [Hg]; · iexact Hg
  iapply (Entails.of_eq (congrArg (fun g : Vec F S512x512 .f32 => ((outL c ↦{fullShare} (g : Buf (Elt F) (outL c))) : sProp 𝕄))
    ((Memref.write_access_unit_zero_univ (Elt F) cc0_stg3_0 off2 inb_S512x512_S512x512_0_0 f _).trans
      (congrArg k0_pay1 (Memref.read_access_unit_zero (Elt F) cc0_scratch2 off4 inb_S16x2x16x512_S16x2x16x512_0_0_0_0 (G m))))))
  iexact Ho

end AllReduce
-- ==== Proof.Body.lean ====
/- The run of the kernel's body on one device, from what the device holds at the start to what it
   holds at the end. -/
module

public import proofs.«01_k».proof.Proof.Trips
public import proofs.«01_k».proof.Proof.Pieces

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kx → ℕ) (c : Dev nD)

/-! ## The ghost state a device starts from -/

/-- The duties of half `h`'s copies, which this device pays. -/
def tokens (h : Fin 2) : sProp 𝕄 :=
  iprop((bigSep (others c) fun j => dutyTok ER (dmaC c 0 h j) 0 0) ∗ (bigSep (others c) fun j => dutyTok ER (dmaC j 1 h c) 0 0)
    ∗ (bigSep (others c) fun j => dutyTok ER (dmaC c 2 h j) 0 0) ∗ bigSep (others c) fun j => dutyTok ER (dmaC j 3 h c) 0 0)

/-- This device's positions at its transfer cells of half `h`, and the credit of those it receives on. -/
def places (h : Fin 2) : sProp 𝕄 :=
  iprop((bigSep (others c) fun j => atPos ER (dmaC c 0 h j) 0 ∅ 0) ∗ (bigSep (others c) (waiting c 1 h))
    ∗ (bigSep (others c) fun j => atPos ER (dmaC c 2 h j) 0 ∅ 0) ∗ bigSep (others c) (waiting c 3 h))

/-- Its positions at the cells for itself, which nothing uses. -/
def idle (h : Fin 2) : sProp 𝕄 := bigSep Finset.univ fun a : Fin 4 => atPos ER (dmaC c a h c) 0 ∅ 0

/-- The barrier's part. -/
def gate : sProp 𝕄 :=
  iprop(cred (tallyAt (barC c) () 15) ∗ atPos ER (barC c) 0 ∅ 0 ∗ bigSep (others c) fun j => dutyTok ER (barC j) 0 c)

/-- All of it. -/
def ghost : sProp 𝕄 :=
  iprop(facts m K ∗ gate c ∗ (tokens c 0 ∗ places c 0 ∗ idle c 0) ∗ tokens c 1 ∗ places c 1 ∗ idle c 1)

/-- The counters of half `h`'s cells, all at zero. -/
def zeros (h : Fin 2) : sProp 𝕄 :=
  bigSep Finset.univ fun a : Fin 4 => bigSep Finset.univ fun j : Fin 16 => semVal (dmaC c a h j) 0

/-! ## The loops -/

variable {α : Type}

/-- The weakest precondition at device `c`. -/
abbrev wpAt (k : P F α) (Q : α → sProp 𝕄) : sProp 𝕄 :=
  wp frame (wpE (defs₀ (F := F)) 𝒱₀ (c : Thread nD τ) none) Set.univ k Q

theorem loop_hail (O : CellTallies nD τ sig Unit) (k : P F α) (Q : α → sProp 𝕄) :
    iprop(facts m K ∗ (bigSep (others c) fun j => iprop(dutyTok ER (barC j) 0 c ∗ barPay j c)) ∗ oweO c (O + owesBar c)) ⊢
      iprop((oweO c O -∗ wpAt c k Q) -∗ wpAt c (run c ((List.finRange 16).map (hail c)) k) Q) := by
  have h := wp_loop c (hail c) (fun _ => rfl) (facts m K) _ _ _ (hail_step m K c O) (oweC_skip c O _) k Q
  rw [oweC_all, oweC_none] at h
  unfold owesBar
  iintro H Hk
  iapply h $$ H
  iintro ⟨-, HO⟩
  iapply Hk; iexact HO

theorem loop_rs (O : CellTallies nD τ sig Unit) (h : Fin 2) (k : P F α) (Q : α → sProp 𝕄) :
    iprop(facts m K ∗ bigSep (others c) (rsBefore m c h) ∗ oweO c (O + owesDma c 1 h)) ⊢
      iprop((((bigSep (others c) fun j => cred (tallyAt (dmaC c 0 h j) () N)) ∗ oweO c O) -∗ wpAt c k Q)
        -∗ wpAt c (run c ((List.finRange 16).map (rsSend c h)) k) Q) := by
  have h := wp_loop c (rsSend c h) (fun _ => rfl) (facts m K) _ _ _ (rsSend_step m K c O h) (oweC_skip c O _) k Q
  rw [oweC_all, oweC_none] at h
  exact h

theorem loop_ag (O : CellTallies nD τ sig Unit) (h : Fin 2) (k : P F α) (Q : α → sProp 𝕄) :
    iprop(facts m K ∗ bigSep (others c) (agBefore m c h) ∗ oweO c (O + owesDma c 3 h)) ⊢
      iprop((((bigSep (others c) fun j => cred (tallyAt (dmaC c 2 h j) () N)) ∗ oweO c O) -∗ wpAt c k Q)
        -∗ wpAt c (run c ((List.finRange 16).map (agSend c h)) k) Q) := by
  have h := wp_loop c (agSend c h) (fun _ => rfl) (facts m K) _ _ _ (agSend_step m K c O h) (oweC_skip c O _) k Q
  rw [oweC_all, oweC_none] at h
  exact h

theorem loop_rsRecv (O : CellTallies nD τ sig Unit) (hO : Above 2 O) (h : Fin 2) (k : P F α) (Q : α → sProp 𝕄) :
    iprop(facts m K ∗ bigSep (others c) (waiting c 1 h) ∗ oweO c O) ⊢
      iprop(((bigSep (others c) (waited m c 1 h) ∗ oweO c O) -∗ wpAt c k Q)
        -∗ wpAt c (run c ((List.finRange 16).map (rsRecv h)) k) Q) :=
  wp_loop c (rsRecv h) (fun _ => rfl) (facts m K) _ _ _ (rsRecv_step m K c O hO h) (fun _ => .refl) k Q

theorem loop_rsLeft (h : Fin 2) (k : P F α) (Q : α → sProp 𝕄) :
    iprop(facts m K ∗ bigSep (others c) (waiting c 0 h) ∗ oweO c 0) ⊢
      iprop(((bigSep (others c) (waited m c 0 h) ∗ oweO c 0) -∗ wpAt c k Q)
        -∗ wpAt c (run c ((List.finRange 16).map (rsLeft c h)) k) Q) :=
  wp_loop c (rsLeft c h) (fun _ => rfl) (facts m K) _ _ _ (rsLeft_step m K c 0 Above.zero h) (fun _ => .refl) k Q

theorem loop_agRecv (h : Fin 2) (k : P F α) (Q : α → sProp 𝕄) :
    iprop(facts m K ∗ bigSep (others c) (waiting c 3 h) ∗ oweO c 0) ⊢
      iprop(((bigSep (others c) (waited m c 3 h) ∗ oweO c 0) -∗ wpAt c k Q)
        -∗ wpAt c (run c ((List.finRange 16).map (agRecv h)) k) Q) :=
  wp_loop c (agRecv h) (fun _ => rfl) (facts m K) _ _ _ (agRecv_step m K c 0 Above.zero h) (fun _ => .refl) k Q

theorem loop_agLeft (h : Fin 2) (k : P F α) (Q : α → sProp 𝕄) :
    iprop(facts m K ∗ bigSep (others c) (waiting c 2 h) ∗ oweO c 0) ⊢
      iprop(((bigSep (others c) (waited m c 2 h) ∗ oweO c 0) -∗ wpAt c k Q)
        -∗ wpAt c (run c ((List.finRange 16).map (agLeft c h)) k) Q) :=
  wp_loop c (agLeft c h) (fun _ => rfl) (facts m K) _ _ _ (agLeft_step m K c 0 Above.zero h) (fun _ => .refl) k Q

/-! ## Putting holdings together and taking them apart -/

theorem waiting_split (a : Fin 4) (h : Fin 2) :
    (bigSep (others c) (waiting c a h) : sProp 𝕄) =
      iprop((bigSep (others c) fun j => cred (tallyAt (dmaC c a h j) () N)) ∗ bigSep (others c) fun j => atPos ER (dmaC c a h j) 0 ∅ 0) :=
  bigSep_sep' (others c) (fun j => (cred (tallyAt (dmaC c a h j) () N) : sProp 𝕄)) fun j => atPos ER (dmaC c a h j) 0 ∅ 0

theorem waited_split (a : Fin 4) (h : Fin 2) :
    (bigSep (others c) (waited m c a h) : sProp 𝕄) =
      iprop((bigSep (others c) fun j => dmaPay m c a.val h j) ∗ bigSep (others c) fun j => semVal (dmaC c a h j) 0) :=
  bigSep_sep' (others c) (fun j => (dmaPay m c a.val h j : sProp 𝕄)) fun j => semVal (dmaC c a h j) 0

theorem rsBefore_split (h : Fin 2) :
    (bigSep (others c) (rsBefore m c h) : sProp 𝕄) =
      iprop((bigSep (others c) fun j => stP c j h (X m c)) ∗ (bigSep (others c) fun j => iprop(∃ f, rcP j c h f))
        ∗ (bigSep (others c) fun j => dutyTok ER (dmaC c 0 h j) 0 0) ∗ bigSep (others c) fun j => dutyTok ER (dmaC j 1 h c) 0 0) := by
  unfold rsBefore; rw [bigSep_sep', bigSep_sep', bigSep_sep']

theorem agBefore_split (h : Fin 2) :
    (bigSep (others c) (agBefore m c h) : sProp 𝕄) =
      iprop((bigSep (others c) fun j => gaP c (lent c j) c h (G m)) ∗ (bigSep (others c) fun j => iprop(∃ f, gaP j fullShare c h f))
        ∗ (bigSep (others c) fun j => dutyTok ER (dmaC c 2 h j) 0 0) ∗ bigSep (others c) fun j => dutyTok ER (dmaC j 3 h c) 0 0) := by
  unfold agBefore; rw [bigSep_sep', bigSep_sep', bigSep_sep']

/-- A separating conjunction over two. -/
theorem two (Φ : Fin 2 → sProp 𝕄) : bigSep Finset.univ Φ = iprop(Φ 0 ∗ Φ 1) :=
  bigSep_univ_eq_bigSepL [0, 1] (by decide) (by decide) Φ

/-- A separating conjunction over four. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A separating conjunction over the devices: this one's part and the others'. -/
theorem mine (Φ : Fin 16 → sProp 𝕄) : bigSep Finset.univ Φ = iprop(Φ c ∗ bigSep (others c) Φ) :=
  bigSep_erase (Finset.mem_univ c)

/-- What the signal to one device hands over. -/
theorem hail_one (j : Fin 16) (f g : Held F) :
    iprop((dutyTok ER (barC j) 0 c : sProp 𝕄) ∗ (bigSep Finset.univ fun h : Fin 2 => rcP c j h f)
        ∗ bigSep Finset.univ fun h : Fin 2 => gaP c fullShare j h g) ⊢
      iprop(dutyTok ER (barC j) 0 c ∗ barPay (F := F) j c) := by
  unfold barPay
  rw [two, two, two]
  iintro ⟨Ht, ⟨Hr0, Hr1⟩, Hg0, Hg1⟩
  isplitl [Ht]; · iexact Ht
  isplitl [Hr0 Hg0]
  · isplitl [Hr0]; · iexists f; iexact Hr0
    iexists g; iexact Hg0
  · isplitl [Hr1]; · iexists f; iexact Hr1
    iexists g; iexact Hg1

/-- What the signals hand over: every slot of the two receiving buffers but this device's own. -/
theorem hail_ready (f g : Held F) :
    iprop((bigSep (others c) fun j => (dutyTok ER (barC j) 0 c : sProp 𝕄))
        ∗ (bigSep (others c) fun j => bigSep Finset.univ fun h : Fin 2 => rcP c j h f)
        ∗ bigSep (others c) fun j => bigSep Finset.univ fun h : Fin 2 => gaP c fullShare j h g) ⊢
      bigSep (others c) fun j => iprop(dutyTok ER (barC j) 0 c ∗ barPay (F := F) j c) := by
  rw [← bigSep_sep', ← bigSep_sep']
  exact bigSep_mono fun j _ => hail_one c j f g

/-- What the barrier's wait brings: this device's slots in every other device's receiving buffers. -/
theorem gate_open :
    (bigSep (others c) fun d => barPay (F := F) c d) =
      iprop(((bigSep (others c) fun d => iprop(∃ f, rcP d c 0 f)) ∗ bigSep (others c) fun d => iprop(∃ f, gaP d fullShare c 0 f))
        ∗ (bigSep (others c) fun d => iprop(∃ f, rcP d c 1 f)) ∗ bigSep (others c) fun d => iprop(∃ f, gaP d fullShare c 1 f)) := by
  unfold barPay
  rw [bigSep_congr (s := others c) fun d _ => two fun h : Fin 2 => iprop((∃ f, rcP (F := F) d c h f) ∗ ∃ f, gaP d fullShare c h f),
    bigSep_sep', bigSep_sep', bigSep_sep']

/-- One idle cell closes: no round of it has a duty. -/
theorem idle_one (a : Fin 4) (h : Fin 2) :
    iprop(facts m K ∗ atPos ER (dmaC c a h c) 0 ∅ 0) ⊢ |={Set.univ}=> (semVal (dmaC c a h c) 0 : sProp 𝕄) := by
  unfold facts
  iintro ⟨⟨#HR, -⟩, Hat⟩
  iapply (Rounds.cell_close ER (Rd m) (g := dmaC c a h c) (Set.mem_univ (K (c, .inr (a, h, c)))) (fun h => h) (R := 0)
    (fun r _ => by
      rcases Nat.eq_zero_or_pos r with rfl | hr
      · exact duties_dma_self m c a h
      · exact duties_later m _ r hr))
  isplitr; · iapply (inv_at m K (c, .inr (a, h, c))); iexact HR
  iexact Hat

/-- The idle cells close. -/
theorem idle_close (h : Fin 2) :
    iprop(facts m K ∗ idle c h) ⊢ |={Set.univ}=> (bigSep Finset.univ fun a : Fin 4 => semVal (dmaC c a h c) 0 : sProp 𝕄) := by
  unfold idle
  refine (sep_mono_left (BI.bigSep_of_persistent (Finset.univ : Finset (Fin 4)) (facts m K))).trans ?_
  rw [← bigSep_sep']
  exact (bigSep_mono fun a _ => idle_one m K c a h).trans (bigSep_fupd _ _)

/-- All counters of a half at zero. -/
theorem zeros_join (h : Fin 2) :
    (zeros c h : sProp 𝕄) = iprop((bigSep Finset.univ fun a : Fin 4 => semVal (dmaC c a h c) 0)
      ∗ (bigSep (others c) fun j => semVal (dmaC c 0 h j) 0) ∗ (bigSep (others c) fun j => semVal (dmaC c 1 h j) 0)
      ∗ (bigSep (others c) fun j => semVal (dmaC c 2 h j) 0) ∗ bigSep (others c) fun j => semVal (dmaC c 3 h j) 0) := by
  unfold zeros
  rw [bigSep_congr (s := Finset.univ) fun (a : Fin 4) _ => mine c fun j => (semVal (dmaC c a h j) 0 : sProp 𝕄), bigSep_sep', four fun a => bigSep (others c) fun j => semVal (dmaC c a h j) 0]

/-- The staged block, taken apart: this device's own slots, and each half of the others'. -/
theorem st_parts (f : Held F) :
    ((stL c ↦{fullShare} (f : Buf (Elt F) (stL c))) : sProp 𝕄) =
      iprop((bigSep Finset.univ fun h : Fin 2 => stP c c h f)
        ∗ (bigSep (others c) fun j => stP c j 0 f) ∗ bigSep (others c) fun j => stP c j 1 f) := by
  rw [st_whole, mine c, bigSep_congr (s := others c) fun j _ => two _, bigSep_sep']

/-- The received blocks, half by half. -/
theorem rc_halves (f : Held F) :
    ((rcL c ↦{fullShare} (f : Buf (Elt F) (rcL c))) : sProp 𝕄) =
      iprop((bigSep Finset.univ fun a : Fin 16 => rcP c a 0 f) ∗ bigSep Finset.univ fun a : Fin 16 => rcP c a 1 f) := by
  rw [rc_whole, BI.bigSep_univ_comm, two]

/-- The gathered rows, half by half and this device's own apart. -/
theorem ga_halves (f : Held F) :
    ((gaL c ↦{fullShare} (f : Buf (Elt F) (gaL c))) : sProp 𝕄) =
      iprop((gaP c fullShare c 0 f ∗ bigSep (others c) fun j => gaP c fullShare j 0 f)
        ∗ gaP c fullShare c 1 f ∗ bigSep (others c) fun j => gaP c fullShare j 1 f) := by
  rw [ga_whole, BI.bigSep_univ_comm, two, mine c, mine c]

/-! ## The phases -/

/-- The debts left after the signals, after the first exchange's copies, and half way through the second's. -/
def O₁ : CellTallies nD τ sig Unit := owesDma c 3 1 + owesDma c 3 0 + owesDma c 1 1 + owesDma c 1 0

/-- The signals and the wait on the barrier. -/
theorem wp_enter (f g : Held F) (k : PUnit → P F α) (Q : α → sProp 𝕄) :
    iprop(facts m K ∗ gate c ∗ (rcL c ↦{fullShare} (f : Buf (Elt F) (rcL c))) ∗ (gaL c ↦{fullShare} (g : Buf (Elt F) (gaL c)))
        ∗ oweO c (O₀ c)) ⊢
      iprop((((bigSep Finset.univ fun h : Fin 2 => rcP c c h f) ∗ (bigSep Finset.univ fun h : Fin 2 => gaP c fullShare c h g)
            ∗ (bigSep (others c) fun d => barPay (F := F) c d) ∗ semVal (barC c) 0 ∗ oweO c (O₁ c)) -∗ wpAt c (k ⟨⟩) Q)
        -∗ wpAt c (run c ((List.finRange 16).map (hail c)) (semWaitWord barS 15#32 >>= k)) Q) := by
  rw [rc_whole, ga_whole, mine c, mine c]
  unfold gate
  iintro ⟨#HF, ⟨Hc, Hat, Ht⟩, ⟨Hr, Hrs⟩, ⟨Hg, Hgs⟩, HO⟩ Hk
  iapply (loop_hail m K c (O₁ c) _ Q) $$ [Ht Hrs Hgs HO]
  · isplitr; · iexact HF
    isplitr [HO]
    · iapply (hail_ready c f g)
      isplitl [Ht]; · iexact Ht
      isplitl [Hrs] <;> iassumption
    · iexact HO
  iintro HO
  iapply (barrier_wait m K c (O₁ c)
      ((((above_dma c 3 1 (by decide)).add (above_dma c 3 0 (by decide))).add (above_dma c 1 1 (by decide))).add
        (above_dma c 1 0 (by decide))) k Q) $$ [Hc Hat HO]
  · isplitr; · iexact HF
    isplitl [Hc]; · iexact Hc
    isplitl [Hat] <;> iassumption
  iintro ⟨Hp, Hz, HO⟩
  iapply Hk
  isplitl [Hr]; · iexact Hr
  isplitl [Hg]; · iexact Hg
  isplitl [Hp]; · iexact Hp
  isplitl [Hz] <;> iassumption

/-- One half of the middle of the kernel: its blocks arrive, its rows are normalised, and are sent on. -/
theorem wp_half (h : Fin 2) (O : CellTallies nD τ sig Unit) (hO : Above 2 O) (g : Held F) (k : P F α) (Q : α → sProp 𝕄) :
    iprop(facts m K ∗ bigSep (others c) (waiting c 1 h) ∗ rcP c c h (R m c) ∗ resP m c ∗ gamP m c ∗ gaP c fullShare c h g
        ∗ (bigSep (others c) fun j => iprop(∃ f, gaP j fullShare c h f))
        ∗ (bigSep (others c) fun j => dutyTok ER (dmaC c 2 h j) 0 0) ∗ (bigSep (others c) fun j => dutyTok ER (dmaC j 3 h c) 0 0)
        ∗ oweO c (O + owesDma c 3 h)) ⊢
      iprop((((bigSep Finset.univ fun a : Fin 16 => rcP c a h (R m c)) ∗ (bigSep (others c) fun j => semVal (dmaC c 1 h j) 0)
            ∗ resP m c ∗ gamP m c ∗ (bigSep (others c) fun j => cred (tallyAt (dmaC c 2 h j) () N)) ∗ oweO c O) -∗ wpAt c k Q)
        -∗ wpAt c (run c ((List.finRange 16).map (rsRecv h)) <| norm c h <|
            run c ((List.finRange 16).map (agSend c h)) k) Q) := by
  iintro ⟨#HF, Hw, Hr, Hres, Hgam, Hg, Hgs, Ht2, Ht3, HO⟩ Hk
  iapply (loop_rsRecv m K c (O + owesDma c 3 h) (hO.add (above_dma c 3 h (by decide))) h _ Q) $$ [Hw HO]
  · isplitr; · iexact HF
    isplitl [Hw] <;> iassumption
  iintro ⟨Hw, HO⟩
  ihave Hw := (Entails.of_eq (waited_split m c 1 h)) $$ Hw
  icases Hw with ⟨Hrs, Hz⟩
  iapply (wp_norm m c h g _ Q) $$ [Hr Hrs Hres Hgam Hg]
  · isplitl [Hr Hrs]
    · rw [mine c]
      isplitl [Hr]; · iexact Hr
      iexact Hrs
    isplitl [Hres]; · iexact Hres
    isplitl [Hgam] <;> iassumption
  iintro ⟨Hr, Hres, Hgam, Hg⟩
  ihave Hg := (Entails.of_eq (ga_lent c h (G m))) $$ Hg
  iapply (loop_ag m K c O h _ Q) $$ [Hg Hgs Ht2 Ht3 HO]
  · isplitr; · iexact HF
    isplitr [HO]
    · rw [agBefore_split]
      isplitl [Hg]; · iexact Hg
      isplitl [Hgs]; · iexact Hgs
      isplitl [Ht2] <;> iassumption
    · iexact HO
  iintro ⟨Hc, HO⟩
  iapply Hk
  isplitl [Hr]; · iexact Hr
  isplitl [Hz]; · iexact Hz
  isplitl [Hres]; · iexact Hres
  isplitl [Hgam]; · iexact Hgam
  isplitl [Hc] <;> iassumption

/-- The copies of the first exchange, both halves. -/
theorem wp_send (h : Fin 2) (O : CellTallies nD τ sig Unit) (k : P F α) (Q : α → sProp 𝕄) :
    iprop(facts m K ∗ (bigSep (others c) fun j => stP c j h (X m c)) ∗ (bigSep (others c) fun j => iprop(∃ f, rcP j c h f))
        ∗ (bigSep (others c) fun j => dutyTok ER (dmaC c 0 h j) 0 0) ∗ (bigSep (others c) fun j => dutyTok ER (dmaC j 1 h c) 0 0)
        ∗ oweO c (O + owesDma c 1 h)) ⊢
      iprop((((bigSep (others c) fun j => cred (tallyAt (dmaC c 0 h j) () N)) ∗ oweO c O) -∗ wpAt c k Q)
        -∗ wpAt c (run c ((List.finRange 16).map (rsSend c h)) k) Q) := by
  iintro ⟨#HF, Hs, Hr, Ht0, Ht1, HO⟩ Hk
  iapply (loop_rs m K c O h _ Q) $$ [Hs Hr Ht0 Ht1 HO]
  · isplitr; · iexact HF
    isplitr [HO]
    · rw [rsBefore_split]
      isplitl [Hs]; · iexact Hs
      isplitl [Hr]; · iexact Hr
      isplitl [Ht0] <;> iassumption
    · iexact HO
  iexact Hk

/-- What a half's last three waits start from, and what they bring back. -/
def toLeave (h : Fin 2) : sProp 𝕄 := iprop(bigSep (others c) (waiting c 0 h) ∗ bigSep (others c) (waiting c 3 h) ∗ bigSep (others c) (waiting c 2 h))
def home (h : Fin 2) : sProp 𝕄 :=
  iprop(bigSep (others c) (waited m c 0 h) ∗ bigSep (others c) (waited m c 3 h) ∗ bigSep (others c) (waited m c 2 h))

/-- The last six loops. -/
theorem wp_leave (k : P F α) (Q : α → sProp 𝕄) :
    iprop(facts m K ∗ toLeave c 0 ∗ toLeave c 1 ∗ oweO c 0) ⊢
      iprop(((home m c 0 ∗ home m c 1 ∗ oweO c 0) -∗ wpAt c k Q)
        -∗ wpAt c (run c ((List.finRange 16).map (rsLeft c 0)) <| run c ((List.finRange 16).map (rsLeft c 1)) <|
            run c ((List.finRange 16).map (agRecv 0)) <| run c ((List.finRange 16).map (agRecv 1)) <|
            run c ((List.finRange 16).map (agLeft c 0)) <| run c ((List.finRange 16).map (agLeft c 1)) k) Q) := by
  unfold toLeave home
  iintro ⟨#HF, ⟨A0, B0, C0⟩, ⟨A1, B1, C1⟩, HO⟩ Hk
  iapply (loop_rsLeft m K c 0 _ Q) $$ [A0 HO]
  · isplitr; · iexact HF
    isplitl [A0] <;> iassumption
  iintro ⟨A0, HO⟩
  iapply (loop_rsLeft m K c 1 _ Q) $$ [A1 HO]
  · isplitr; · iexact HF
    isplitl [A1] <;> iassumption
  iintro ⟨A1, HO⟩
  iapply (loop_agRecv m K c 0 _ Q) $$ [B0 HO]
  · isplitr; · iexact HF
    isplitl [B0] <;> iassumption
  iintro ⟨B0, HO⟩
  iapply (loop_agRecv m K c 1 _ Q) $$ [B1 HO]
  · isplitr; · iexact HF
    isplitl [B1] <;> iassumption
  iintro ⟨B1, HO⟩
  iapply (loop_agLeft m K c 0 _ Q) $$ [C0 HO]
  · isplitr; · iexact HF
    isplitl [C0] <;> iassumption
  iintro ⟨C0, HO⟩
  iapply (loop_agLeft m K c 1 _ Q) $$ [C1 HO]
  · isplitr; · iexact HF
    isplitl [C1] <;> iassumption
  iintro ⟨C1, HO⟩
  iapply Hk
  isplitl [A0 B0 C0]
  · isplitl [A0]; · iexact A0
    isplitl [B0] <;> iassumption
  isplitl [A1 B1 C1]
  · isplitl [A1]; · iexact A1
    isplitl [B1] <;> iassumption
  iexact HO

/-- What a half brings home: what was sent, everyone's rows, and the counters. -/
theorem home_split (h : Fin 2) :
    (home m c h : sProp 𝕄) ⊢ iprop((bigSep (others c) fun j => stP c j h (X m c))
      ∗ (gaP c fullShare c h (G m) ∗ bigSep (others c) fun j => gaP c fullShare j h (G m))
      ∗ (bigSep (others c) fun j => semVal (dmaC c 0 h j) 0) ∗ (bigSep (others c) fun j => semVal (dmaC c 2 h j) 0)
      ∗ bigSep (others c) fun j => semVal (dmaC c 3 h j) 0) := by
  unfold home
  rw [waited_split, waited_split, waited_split, ga_lent]
  iintro ⟨⟨A, Az⟩, ⟨B, Bz⟩, ⟨C, Cz⟩⟩
  isplitl [A]; · iexact A
  isplitl [B C]
  · isplitl [C]; · iexact C
    iexact B
  isplitl [Az]; · iexact Az
  isplitl [Cz] <;> iassumption

/-! ## The whole body -/

/-- What the device ends with. -/
def after : sProp 𝕄 :=
  iprop((∃ f : Held F, stL c ↦{fullShare} (f : Buf (Elt F) (stL c))) ∗ (∃ f : Held F, rcL c ↦{fullShare} (f : Buf (Elt F) (rcL c)))
    ∗ (∃ f : Held F, gaL c ↦{fullShare} (f : Buf (Elt F) (gaL c))) ∗ semVal (barC c) 0 ∗ zeros c 0 ∗ zeros c 1)

/-- The kernel's body on device `c`. -/
theorem wp_body (s f g : Held F) (o : Vec F S512x512 .f32) (Q : PUnit → sProp 𝕄) :
    iprop(ghost m K c ∗ (stL c ↦{fullShare} (s : Buf (Elt F) (stL c))) ∗ (rcL c ↦{fullShare} (f : Buf (Elt F) (rcL c)))
        ∗ (gaL c ↦{fullShare} (g : Buf (Elt F) (gaL c))) ∗ oweO c (O₀ c) ∗ xP m c ∗ resP m c ∗ gamP m c ∗ outP c o) ⊢
      iprop(((after c ∗ oweO c 0 ∗ xP m c ∗ resP m c ∗ gamP m c ∗ outP c (outAt m)) -∗ Q ⟨⟩) -∗ wpAt c (body c) Q) := by
  unfold ghost tokens places body
  iintro ⟨⟨#HF, Hgate, ⟨⟨T00, T10, T20, T30⟩, ⟨P00, W10, P20, W30⟩, I0⟩, ⟨T01, T11, T21, T31⟩, ⟨P01, W11, P21, W31⟩, I1⟩,
    Hst, Hrc, Hga, HO, Hx, Hres, Hgam, Hout⟩ Hk
  imod (idle_close m K c 0) $$ [I0] with Z0
  · isplitr; · iexact HF
    iexact I0
  imod (idle_close m K c 1) $$ [I1] with Z1
  · isplitr; · iexact HF
    iexact I1
  iapply (wp_enter m K c f g _ Q) $$ [Hgate Hrc Hga HO]
  · isplitr; · iexact HF
    isplitl [Hgate]; · iexact Hgate
    isplitl [Hrc]; · iexact Hrc
    isplitl [Hga] <;> iassumption
  iintro ⟨Hrc, Hga, Hbar, Hzb, HO⟩
  ihave Hbar := (Entails.of_eq (gate_open (F := F) c)) $$ Hbar
  icases Hbar with ⟨⟨Dr0, Dg0⟩, Dr1, Dg1⟩
  ihave Hga := (Entails.of_eq (two _)) $$ Hga
  icases Hga with ⟨Hg0, Hg1⟩
  iapply (wp_stage m c s _ Q) $$ [Hx Hst]
  · isplitl [Hx] <;> iassumption
  iintro ⟨Hx, Hst⟩
  ihave Hst := (Entails.of_eq (st_parts c (X m c))) $$ Hst
  icases Hst with ⟨Hown, Hs0, Hs1⟩
  iapply (wp_send m K c 0 (owesDma c 3 1 + owesDma c 3 0 + owesDma c 1 1) _ Q) $$ [Hs0 Dr0 T00 T10 HO]
  · isplitr; · iexact HF
    isplitl [Hs0]; · iexact Hs0
    isplitl [Dr0]; · iexact Dr0
    isplitl [T00]; · iexact T00
    isplitl [T10]; · iexact T10
    iexact HO
  iintro ⟨C00, HO⟩
  iapply (wp_send m K c 1 (owesDma c 3 1 + owesDma c 3 0) _ Q) $$ [Hs1 Dr1 T01 T11 HO]
  · isplitr; · iexact HF
    isplitl [Hs1]; · iexact Hs1
    isplitl [Dr1]; · iexact Dr1
    isplitl [T01]; · iexact T01
    isplitl [T11]; · iexact T11
    iexact HO
  iintro ⟨C01, HO⟩
  iapply (wp_own m c f _ Q) $$ [Hown Hrc]
  · isplitl [Hown] <;> iassumption
  iintro ⟨Hown, Hrc⟩
  ihave Hrc := (Entails.of_eq (two _)) $$ Hrc
  icases Hrc with ⟨Hr0, Hr1⟩
  iapply (wp_half m K c 0 (owesDma c 3 1) (above_dma c 3 1 (by decide)) g _ Q) $$ [W10 Hr0 Hres Hgam Hg0 Dg0 T20 T30 HO]
  · isplitr; · iexact HF
    isplitl [W10]; · iexact W10
    isplitl [Hr0]; · iexact Hr0
    isplitl [Hres]; · iexact Hres
    isplitl [Hgam]; · iexact Hgam
    isplitl [Hg0]; · iexact Hg0
    isplitl [Dg0]; · iexact Dg0
    isplitl [T20]; · iexact T20
    isplitl [T30]; · iexact T30
    iexact HO
  iintro ⟨Hr0, Z10, Hres, Hgam, C20, HO⟩
  iapply (wp_half m K c 1 0 Above.zero g _ Q) $$ [W11 Hr1 Hres Hgam Hg1 Dg1 T21 T31 HO]
  · isplitr; · iexact HF
    isplitl [W11]; · iexact W11
    isplitl [Hr1]; · iexact Hr1
    isplitl [Hres]; · iexact Hres
    isplitl [Hgam]; · iexact Hgam
    isplitl [Hg1]; · iexact Hg1
    isplitl [Dg1]; · iexact Dg1
    isplitl [T21]; · iexact T21
    isplitl [T31]; · iexact T31
    rw [zero_add]; iexact HO
  iintro ⟨Hr1, Z11, Hres, Hgam, C21, HO⟩
  iapply (wp_leave m K c _ Q) $$ [C00 P00 W30 C20 P20 C01 P01 W31 C21 P21 HO]
  · unfold toLeave
    rw [waiting_split c 0 0, waiting_split c 0 1, waiting_split c 2 0, waiting_split c 2 1]
    isplitr; · iexact HF
    isplitl [C00 P00 W30 C20 P20]
    · isplitl [C00 P00]
      · isplitl [C00] <;> iassumption
      isplitl [W30]; · iexact W30
      isplitl [C20] <;> iassumption
    isplitl [C01 P01 W31 C21 P21]
    · isplitl [C01 P01]
      · isplitl [C01] <;> iassumption
      isplitl [W31]; · iexact W31
      isplitl [C21] <;> iassumption
    iexact HO
  iintro ⟨H0, H1, HO⟩
  ihave H0 := (home_split m c 0) $$ H0
  ihave H1 := (home_split m c 1) $$ H1
  icases H0 with ⟨Hs0, Hg0, Z00, Z20, Z30⟩
  icases H1 with ⟨Hs1, Hg1, Z01, Z21, Z31⟩
  iapply (wp_finish m c o Q) $$ [Hg0 Hg1 Hout]
  · isplitl [Hg0 Hg1]
    · rw [ga_halves]
      isplitl [Hg0] <;> iassumption
    · iexact Hout
  iintro ⟨Hga, Hout⟩
  iapply Hk
  isplitl [Hown Hs0 Hs1 Hr0 Hr1 Hga Hzb Z0 Z00 Z10 Z20 Z30 Z1 Z01 Z11 Z21 Z31]
  · unfold after
    rw [zeros_join c 0, zeros_join c 1]
    isplitl [Hown Hs0 Hs1]
    · iexists (X m c)
      rw [st_parts]
      isplitl [Hown]; · iexact Hown
      isplitl [Hs0] <;> iassumption
    isplitl [Hr0 Hr1]
    · iexists (R m c)
      rw [rc_halves]
      isplitl [Hr0] <;> iassumption
    isplitl [Hga]; · iexists (G m); iexact Hga
    isplitl [Hzb]; · iexact Hzb
    isplitl [Z0 Z00 Z10 Z20 Z30]
    · isplitl [Z0]; · iexact Z0
      isplitl [Z00]; · iexact Z00
      isplitl [Z10]; · iexact Z10
      isplitl [Z20] <;> iassumption
    · isplitl [Z1]; · iexact Z1
      isplitl [Z01]; · iexact Z01
      isplitl [Z11]; · iexact Z11
      isplitl [Z21] <;> iassumption
  isplitl [HO]; · iexact HO
  isplitl [Hx]; · iexact Hx
  isplitl [Hres]; · iexact Hres
  isplitl [Hgam] <;> iassumption

end AllReduce
-- ==== Proof.Normal.lean ====
/- The printed body is the body of the four loops. -/
module

public import proofs.«01_k».proof.Proof.Steps

@[expose] public section

noncomputable section

namespace AllReduce

open Cert.KernelIdeal Cert.KernelIdeal.Gen
open Idealize.ShloMosaic Idealize.SL.Sem

variable {F : FTy → Type} [FloatOps F]

set_option maxRecDepth 65536

theorem trips {α : Type} {c : Dev nD} {l l' : List (Trip F)} {k k' : P F α} (hl : l = l') (hk : k = k') :
    run c l k = run c l' k' := by subst hl hk; rfl

theorem stage_congr {α : Type} {k k' : P F α} (hk : k = k') : stage k = stage k' := by subst hk; rfl
theorem own_congr {α : Type} {c : Dev nD} {k k' : P F α} (hk : k = k') : own c k = own c k' := by
  subst hk; rfl
theorem norm_congr {α : Type} {c : Dev nD} {h : Fin 2} {k k' : P F α} (hk : k = k') :
    norm c h k = norm c h k' := by subst hk; rfl

/-- The printed body: the device's number, then the four loops. -/
theorem body_eq :
    cc0_body (F := F) xM (Memref.isWhole_whole _) resM (Memref.isWhole_whole _) gamM
      (Memref.isWhole_whole _) outM (Memref.isWhole_whole _) stM (Memref.isWhole_whole _) rcM
      (Memref.isWhole_whole _) gaM (Memref.isWhole_whole _) cc0_scratch3 cc0_scratch4 cc0_scratch5
      cc0_scratch6 =
    (Prog.lift .deviceId : P F (Dev nD)) >>= fun c => body c := by
  rw [cc0_body_eq_skeleton]
  unfold cc0_body_skel
  rw [k0_part1_eq_skeleton, part1, bind_assoc]
  congr 1
  funext c
  rw [run_bind, pure_bind]
  simp only [k0_part2_eq_skeleton, k0_part3_eq_skeleton, k0_part4_eq_skeleton, k0_part5_eq_skeleton,
    k0_part6_eq_skeleton, k0_part7_eq_skeleton, k0_part8_eq_skeleton, k0_part9_eq_skeleton,
    k0_part10_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton,
    part2, part3, part4, part5, part6, part7, part8, part9, part10, part11, part12, part13, part14,
    part15, part16, part17, part18, part19, part20, part21, part22, part23,
    run_bind, stage_bind, own_bind, norm_bind, pure_bind, bind_assoc, run_append]
  unfold body
  simp only [run_append]
  refine trips rfl (congrArg _ (funext fun _ => stage_congr (trips rfl (own_congr (trips rfl
    (norm_congr (trips rfl (norm_congr ?_))))))))
  exact (trips (k' := run c [agLeft c 1 15] finish) rfl rfl).trans ((run_append _ _ _ _).trans (trips rfl rfl))

end AllReduce
-- ==== Proof.Data.lean ====
/- The kernel's one point, between the arrays and the body: what each staging buffer holds before
   and after it, and the body's obligation. -/
module

public import proofs.«01_k».proof.Proof.Body
public import proofs.«01_k».proof.Proof.Normal
public import proofs.«01_k».proof.Proof.Gen.KernelIdeal.Points
public import Idealize.ShloMosaic.Lib.Pipeline.Launch
public import Idealize.ShloMosaic.Lib.Pipeline.Value

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Every window is its whole array -/

theorem blk_x (t : Fin cfg0.N) (f : (main_arg0 : Ref sig .tc).ty.Contents (Elt F)) :
    ((cfg0.win (0 : Fin 4)).blk t).view.read (Elt F) f = f := by
  rw [fin_N0 t]
  exact Memref.read_access_unit_zero (Elt F) main_arg0 (by funext a; fin_cases a <;> rfl) _ f

theorem blk_res (t : Fin cfg0.N) (f : (main_arg1 : Ref sig .tc).ty.Contents (Elt F)) :
    ((cfg0.win (1 : Fin 4)).blk t).view.read (Elt F) f = f := by
  rw [fin_N0 t]
  exact Memref.read_access_unit_zero (Elt F) main_arg1 (by funext a; fin_cases a <;> rfl) _ f

theorem blk_gam (t : Fin cfg0.N) (f : (main_arg2 : Ref sig .tc).ty.Contents (Elt F)) :
    ((cfg0.win (2 : Fin 4)).blk t).view.read (Elt F) f = f := by
  rw [fin_N0 t]
  exact Memref.read_access_unit_zero (Elt F) main_arg2 (by funext a; fin_cases a <;> rfl) _ f

theorem blk_out (t : Fin cfg0.N) (f : (main_v1 : Ref sig .tc).ty.Contents (Elt F)) :
    ((cfg0.win (3 : Fin 4)).blk t).view.read (Elt F) f = f := by
  rw [fin_N0 t]
  exact Memref.read_access_unit_zero (Elt F) main_v1 (by funext a; fin_cases a <;> rfl) _ f

/-! ## The data of the point -/

/-- The three scratch buffers, at some contents. -/
def scratch (c : Dev nD) : sProp 𝕄 :=
  iprop((∃ f : Held F, stL c ↦{fullShare} (f : Buf (Elt F) (stL c))) ∗ (∃ f : Held F, rcL c ↦{fullShare} (f : Buf (Elt F) (rcL c)))
    ∗ ∃ f : Held F, gaL c ↦{fullShare} (f : Buf (Elt F) (gaL c)))

/-- Before the point. -/
def start (c : Dev nD) : sProp 𝕄 := iprop((∃ K, ghost m K c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => resAt m c
    | ⟨2, _⟩ => gamAt m c
    | ⟨3, _⟩ => outAt m
  Φ t := match t with
    | ⟨0, _⟩ => start m c
    | ⟨_ + 1, _⟩ => after c
  q _ := fullShare
  owed t := match t with
    | ⟨0, _⟩ => O₀ c
    | ⟨_ + 1, _⟩ => 0

theorem before_x (c : Dev nD) (t : Fin cfg0.N) (d) : (dats (F := F) m 0 c).before (0 : Fin 4) t d = xAt m c := by
  unfold Dat.before; rw [if_pos (fetch0_0 t)]; exact blk_x (F := F) t _

theorem before_res (c : Dev nD) (t : Fin cfg0.N) (d) : (dats (F := F) m 0 c).before (1 : Fin 4) t d = resAt m c := by
  unfold Dat.before; rw [if_pos (fetch0_1 t)]; exact blk_res (F := F) t _

theorem before_gam (c : Dev nD) (t : Fin cfg0.N) (d) : (dats (F := F) m 0 c).before (2 : Fin 4) t d = gamAt m c := by
  unfold Dat.before; rw [if_pos (fetch0_2 t)]; exact blk_gam (F := F) t _

/-- A whole buffer at a value, as the staging buffers are handed over. -/
abbrev stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

theorem owns_eq (c : Dev nD) (b : Ref sig .tc) (v : b.ty.Contents (Elt F)) :
    (owns (Ix := Unit) (Name := ℕ) (U := UU) (Lvl := ℕ) (c : Thread nD τ) (Memref.whole b) fullShare v : sProp 𝕄) = stg c b v := by
  unfold owns; simp only [Memref.view_whole, View.read_whole, View.set_whole]

/-- What the body is handed. -/
def bodyPre (c : Dev nD) : sProp 𝕄 :=
  iprop(start m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

/-- What it hands back. -/
def bodyPost (c : Dev nD) : sProp 𝕄 :=
  iprop(after c ∗ (dats m 0 c).owesAt () t0_0.succ ∗ stg c cc0_stg0_0 (xAt m c) ∗ stg c cc0_stg1_0 (resAt m c)
    ∗ stg c cc0_stg2_0 (gamAt m c) ∗ stg c cc0_stg3_0 (outAt m))

theorem sound_body (c : Dev nD) :
    bodyPre m c ⊢ wp frame (wpE (defs₀ (F := F)) 𝒱₀ (c : Thread nD τ) none) Set.univ
      (cc0_body (F := F) xM (Memref.isWhole_whole _) resM (Memref.isWhole_whole _) gamM
        (Memref.isWhole_whole _) outM (Memref.isWhole_whole _) stM (Memref.isWhole_whole _) rcM
        (Memref.isWhole_whole _) gaM (Memref.isWhole_whole _) cc0_scratch3 cc0_scratch4 cc0_scratch5
        cc0_scratch6) (fun _ => bodyPost m c) := by
  rw [body_eq]
  simp only [Prog.lift, Prog.bind_op, Prog.bind_ret, wp_deviceId]
  unfold bodyPre start scratch
  iintro ⟨⟨⟨%K, Hg⟩, ⟨%s, Hs⟩, ⟨%f, Hf⟩, %g, Hgg⟩, Ho, ⟨%d0, %x0, %h0, Hx⟩, ⟨%d1, %x1, %h1, Hr⟩, ⟨%d2, %x2, %h2, Hw⟩, ⟨%d3, %x3, %h3, Hout⟩⟩
  rw [before_x] at h0
  rw [before_res] at h1
  rw [before_gam] at h2
  subst h0 h1 h2
  unfold Dat.owesAt Pipeline.owesWithin
  icases Ho with ⟨%W, %hW, HO⟩
  rw [show (dats m 0 c).owed t0_0.castSucc = O₀ c from rfl]
  iapply (wp_body m K c s f g x3 fun _ => bodyPost m c) $$ [Hg Hs Hf Hgg HO Hx Hr Hw Hout]
  · isplitl [Hg]; · iexact Hg
    isplitl [Hs]; · iexact Hs
    isplitl [Hf]; · iexact Hf
    isplitl [Hgg]; · iexact Hgg
    isplitl [HO]; · unfold oweO; iexists W; iexact HO
    isplitl [Hx]; · unfold xP; iexact Hx
    isplitl [Hr]; · unfold resP; iexact Hr
    isplitl [Hw]; · unfold gamP; iexact Hw
    unfold outP; iexact Hout
  unfold oweO xP resP gamP outP bodyPost Dat.owesAt Pipeline.owesWithin
  rw [show (dats m 0 c).owed t0_0.succ = 0 from rfl]
  iintro ⟨Ha, ⟨%W', HO⟩, Hx, Hr, Hw, Hout⟩
  isplitl [Ha]; · iexact Ha
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hw]
  · iexists _; isplitr; · (ipureintro; rfl)
    iexact Hw
  iexists _; isplitr; · (ipureintro; rfl)
  iexact Hout

set_option maxRecDepth 4000 in
theorem body_obligation (c : Dev nD) : BodyObligation (dats (F := F) m 0 c) (defs₀ (F := F)) 𝒱₀ () Set.univ := fun t => by
  rw [show t = t0_0 from fin_N0 t]
  rw [bigSep_W0, bigSep_W0]
  simp only [owns_eq]
  exact sound_body m c

/-! ## The result array -/

theorem out_final (c : Dev nD) : (dats (F := F) m 0 c).arrAt (3 : Fin 4) cfg0.N = outAt m :=
  (dats (F := F) m 0 c).arrAt_eq_of_cover (3 : Fin 4) (outAt m) (fun t _ => (blk_out t (outAt m)).symm)
    (fun i => ⟨t0_0, flush0_3 t0_0, by
      rw [show (t0_0 : Fin cfg0.N) = t0_0 from rfl]
      show i ∈ ((View.whole main_v1).slice (win0_3.rect t0_0)).set
      rw [View.set_slice_whole, Rect.mem_set_unit]
      have h0 : (i 0 : Nat) < 512 := (i 0).isLt
      have h1 : (i 1 : Nat) < 512 := (i 1).isLt
      exact (Fin.forall_fin_two).2 ⟨⟨Nat.zero_le _, h0⟩, ⟨Nat.zero_le _, h1⟩⟩⟩)

end AllReduce
-- ==== Proof.Ghost.lean ====
/- The protocol's ghost state: minting it, opening every cell's invariant, and dealing the duties to
   the devices that pay them. -/
module

public import proofs.«01_k».proof.Proof.Body
public import Idealize.ShloMosaic.Lib.Pipeline.Launch
public import Idealize.ShloMosaic.Lib.Pipeline.Kit

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the duties -/

theorem kcell_inj : Function.Injective kcell := by
  rintro ⟨c, k⟩ ⟨c', k'⟩ e
  have hs : (kcell (c, k)).2 = (kcell (c', k')).2 := congrArg Prod.snd e
  have hc : (kcell (c, k)).1.1 = (kcell (c', k')).1.1 := congrArg (fun g : GSem nD τ sig => g.1.1) e
  rcases k with u | ⟨a, h, j⟩ <;> rcases k' with u' | ⟨a', h', j'⟩
  · exact Prod.ext hc rfl
  · exact absurd hs (by intro h; cases h)
  · exact absurd hs (by intro h; cases h)
  · obtain ⟨ha, hh, hj⟩ := cl_inj (SemLoc.dma.inj hs)
    subst ha hh hj
    exact Prod.ext hc rfl

def allCells : Finset (GSem nD τ sig) := Finset.univ.map ⟨kcell, kcell_inj⟩

/-- Which duty of a device's cells: the barrier's from one device, or a transfer cell's only one. -/
abbrev Dx : Type := Fin 16 ⊕ (Fin 4 × Fin 2 × Fin 16)

def duty : Dev nD × Dx → GSem nD τ sig × ℕ × Fin 16
  | (c, .inl d) => (barC c, 0, d)
  | (c, .inr (a, h, j)) => (dmaC c a h j, 0, 0)

theorem duty_inj : Function.Injective duty := by
  rintro ⟨c, k⟩ ⟨c', k'⟩ e
  have hs : (duty (c, k)).1.2 = (duty (c', k')).1.2 := congrArg (fun x : GSem nD τ sig × ℕ × Fin 16 => x.1.2) e
  have hc : (duty (c, k)).1.1.1 = (duty (c', k')).1.1.1 := congrArg (fun x : GSem nD τ sig × ℕ × Fin 16 => x.1.1.1) e
  have hd : (duty (c, k)).2.2 = (duty (c', k')).2.2 := congrArg (fun x : GSem nD τ sig × ℕ × Fin 16 => x.2.2) e
  rcases k with u | ⟨a, h, j⟩ <;> rcases k' with u' | ⟨a', h', j'⟩
  · exact Prod.ext hc (congrArg Sum.inl hd)
  · exact absurd hs (by intro h; cases h)
  · exact absurd hs (by intro h; cases h)
  · obtain ⟨ha, hh, hj⟩ := cl_inj (SemLoc.dma.inj hs)
    subst ha hh hj
    exact Prod.ext hc rfl

def allDuties : Finset (GSem nD τ sig × ℕ × Fin 16) := Finset.univ.map ⟨duty, duty_inj⟩

/-- The launch's ghost element. -/
def u₀ : UU :=
  (initOf (Pipeline.cells cfgs cellOf_inj) (Pipeline.launchToks cfgs cellOf_inj), initOf allCells allDuties)

/-! ## Separating conjunctions over a device's transfer cells -/

section Split
variable (c : Dev nD)

theorem cells_split (Φ : Fin 4 → Fin 2 → Fin 16 → sProp 𝕄) :
    (bigSep Finset.univ fun x : Fin 4 × Fin 2 × Fin 16 => Φ x.1 x.2.1 x.2.2) =
      iprop((bigSep Finset.univ fun a => bigSep Finset.univ fun j => Φ a 0 j)
        ∗ bigSep Finset.univ fun a => bigSep Finset.univ fun j => Φ a 1 j) := by
  rw [bigSep_univ_prod, ← bigSep_sep']
  refine bigSep_congr fun a _ => ?_
  rw [bigSep_univ_prod]
  exact two fun h => bigSep Finset.univ fun j => Φ a h j

theorem half_split (Φ : Fin 4 → Fin 16 → sProp 𝕄) :
    (bigSep Finset.univ fun a => bigSep Finset.univ fun j => Φ a j) =
      iprop((bigSep Finset.univ fun a => Φ a c) ∗ bigSep (others c) (Φ 0) ∗ bigSep (others c) (Φ 1)
        ∗ bigSep (others c) (Φ 2) ∗ bigSep (others c) (Φ 3)) := by
  rw [bigSep_congr (s := Finset.univ) (fun (a : Fin 4) _ => mine c (Φ a)), bigSep_sep',
    four fun a => bigSep (others c) (Φ a)]

end Split

/-! ## What each device is dealt -/

/-- The duties of a device's own cells. -/
def minted (c : Dev nD) : sProp 𝕄 :=
  iprop((bigSep Finset.univ fun d : Fin 16 => dutyTok ER (barC c) 0 d)
    ∗ bigSep Finset.univ fun x : Fin 4 × Fin 2 × Fin 16 => dutyTok ER (dmaC c x.1 x.2.1 x.2.2) 0 0)

/-- What the ghost element gives a device's cells. -/
def dealt (c : Dev nD) : sProp 𝕄 :=
  iprop((bigSep Finset.univ fun k : Kx => roundState ER (Rd m) (kcell (c, k)) 0)
    ∗ ((bigSep Finset.univ fun k : Kx => atPos ER (kcell (c, k)) 0 ∅ 0)
      ∗ bigSep Finset.univ fun k : Kx => reached ER (kcell (c, k)) 0) ∗ minted c)

/-- A device's positions at half `h`'s cells for the others. -/
def spots (c : Dev nD) (h : Fin 2) : sProp 𝕄 :=
  iprop((bigSep (others c) fun j => atPos ER (dmaC c 0 h j) 0 ∅ 0) ∗ (bigSep (others c) fun j => atPos ER (dmaC c 1 h j) 0 ∅ 0)
    ∗ (bigSep (others c) fun j => atPos ER (dmaC c 2 h j) 0 ∅ 0) ∗ bigSep (others c) fun j => atPos ER (dmaC c 3 h j) 0 ∅ 0)

/-- A device's positions at all its cells. -/
def posts (c : Dev nD) : sProp 𝕄 :=
  iprop(atPos ER (barC c) 0 ∅ 0 ∗ (idle c 0 ∗ spots c 0) ∗ idle c 1 ∗ spots c 1)

/-- The duties it pays. -/
def pays (c : Dev nD) : sProp 𝕄 :=
  iprop((bigSep (others c) fun j => dutyTok ER (barC j) 0 c) ∗ tokens c 0 ∗ tokens c 1)

/-- What it starts with, up to levels and credit. -/
def share (c : Dev nD) : sProp 𝕄 := iprop(∃ K, records m K ∗ posts c ∗ pays c)

theorem posts_eq (c : Dev nD) :
    (bigSep Finset.univ fun k : Kx => (atPos ER (kcell (c, k)) 0 ∅ 0 : sProp 𝕄)) = posts c := by
  rw [bigSep_univ_sum]
  show iprop((bigSep (Finset.univ : Finset Unit) fun _ => (atPos ER (barC c) 0 ∅ 0 : sProp 𝕄))
    ∗ bigSep Finset.univ fun x : Fin 4 × Fin 2 × Fin 16 => (atPos ER (dmaC c x.1 x.2.1 x.2.2) 0 ∅ 0 : sProp 𝕄)) = _
  rw [Finset.univ_unique, bigSep_singleton, cells_split fun a h j => atPos ER (dmaC c a h j) 0 ∅ 0,
    half_split c fun a j => atPos ER (dmaC c a 0 j) 0 ∅ 0, half_split c fun a j => atPos ER (dmaC c a 1 j) 0 ∅ 0]
  rfl

/-- The duties of half `h`'s cells of a device, from and for the others. -/
def kept (c : Dev nD) (h : Fin 2) : sProp 𝕄 :=
  iprop((bigSep (others c) fun j => dutyTok ER (dmaC c 0 h j) 0 0) ∗ (bigSep (others c) fun j => dutyTok ER (dmaC c 1 h j) 0 0)
    ∗ (bigSep (others c) fun j => dutyTok ER (dmaC c 2 h j) 0 0) ∗ bigSep (others c) fun j => dutyTok ER (dmaC c 3 h j) 0 0)

theorem minted_kept (c : Dev nD) :
    minted (F := F) c ⊢ iprop((bigSep (others c) fun d => dutyTok ER (barC c) 0 d) ∗ kept c 0 ∗ kept c 1) := by
  unfold minted kept
  rw [mine c fun d => dutyTok ER (barC c) 0 d, cells_split fun a h j => dutyTok ER (dmaC c a h j) 0 0,
    half_split c fun a j => dutyTok ER (dmaC c a 0 j) 0 0, half_split c fun a j => dutyTok ER (dmaC c a 1 j) 0 0]
  iintro ⟨⟨-, HB⟩, ⟨-, H0⟩, -, H1⟩
  isplitl [HB]; · iexact HB
  isplitl [H0]; · iexact H0
  iexact H1

/-- Summed over the devices, the duties of a device's receive cells are those its peers pay. -/
theorem kept_tokens (h : Fin 2) :
    (bigSep Finset.univ fun c : Dev nD => (kept c h : sProp 𝕄)) = bigSep Finset.univ fun c : Dev nD => tokens c h := by
  unfold kept tokens
  simp only [bigSep_sep']
  rw [show (bigSep Finset.univ fun c : Dev nD => bigSep (others c) fun j => (dutyTok ER (dmaC c 1 h j) 0 0 : sProp 𝕄)) =
      bigSep Finset.univ fun c : Dev nD => bigSep (others c) fun j => dutyTok ER (dmaC j 1 h c) 0 0 from
      bigSep_erase_comm fun c j : Fin 16 => (dutyTok ER (dmaC c 1 h j) 0 0 : sProp 𝕄),
    show (bigSep Finset.univ fun c : Dev nD => bigSep (others c) fun j => (dutyTok ER (dmaC c 3 h j) 0 0 : sProp 𝕄)) =
      bigSep Finset.univ fun c : Dev nD => bigSep (others c) fun j => dutyTok ER (dmaC j 3 h c) 0 0 from
      bigSep_erase_comm fun c j : Fin 16 => (dutyTok ER (dmaC c 3 h j) 0 0 : sProp 𝕄)]

theorem minted_pays :
    (bigSep Finset.univ fun c : Dev nD => (minted c : sProp 𝕄)) ⊢ bigSep Finset.univ fun c : Dev nD => pays c := by
  suffices h : (bigSep Finset.univ fun c : Dev nD => iprop((bigSep (others c) fun d => dutyTok ER (barC c) 0 d)
      ∗ kept c 0 ∗ kept c 1) : sProp 𝕄) = bigSep Finset.univ fun c : Dev nD => pays c by
    rw [← h]; exact bigSep_mono fun c _ => minted_kept c
  unfold pays
  simp only [bigSep_sep']
  rw [kept_tokens, kept_tokens,
    show (bigSep Finset.univ fun c : Dev nD => bigSep (others c) fun j => (dutyTok ER (barC c) 0 j : sProp 𝕄)) =
      bigSep Finset.univ fun c : Dev nD => bigSep (others c) fun j => dutyTok ER (barC j) 0 c from
      bigSep_erase_comm fun c j : Fin 16 => (dutyTok ER (barC c) 0 j : sProp 𝕄)]

/-! ## Minting -/

theorem fund_all : BI.own (ER (initOf allCells allDuties)) ⊢ (|==> bigSep Finset.univ (dealt m) : sProp 𝕄) := by
  have hX (Φ : GSem nD τ sig → sProp 𝕄) :
      bigSep allCells Φ = bigSep Finset.univ fun c : Dev nD => bigSep Finset.univ fun k : Kx => Φ (kcell (c, k)) := by
    unfold allCells; rw [bigSep_map, bigSep_univ_prod]; rfl
  have hT : bigSep allDuties (fun x => (dutyTok ER x.1 x.2.1 x.2.2 : sProp 𝕄)) =
      bigSep Finset.univ fun c : Dev nD => minted c := by
    unfold allDuties; rw [bigSep_map, bigSep_univ_prod]
    refine bigSep_congr fun c _ => ?_
    rw [bigSep_univ_sum]; rfl
  iintro HX
  imod (Rounds.fund ER (Rd m) allCells allDuties) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  simp only [bigSep_sep']
  isplitl [Hst]; · iexact Hst
  isplitl [Hat Hr]
  · isplitl [Hat] <;> iassumption
  iexact Htok

/-! ## The semaphores -/

/-- A device's own transfer semaphores. -/
def osem : Fin 4 × Fin 2 × Fin 16 → SemLoc sig := fun x => .dma (cl x.1 x.2.1 x.2.2)

theorem osem_facts : Pipeline.OwnSemFacts cfg0.spec osem where
  isScoped x := by
    have h : ∀ q : DmaSem sig, 4 ≤ q.val → (SemLoc.dma q : SemLoc sig).isScoped .tc = true := by decide
    exact h _ (cl_ge _ _ _)
  inj := by
    rintro ⟨a, h, j⟩ ⟨a', h', j'⟩ e
    obtain ⟨ha, hh, hj⟩ := cl_inj (SemLoc.dma.inj e)
    subst ha hh hj
    rfl
  disj x w s e := by
    have h : ∀ w s, ((cfg0.spec w).sem s).val < 4 := by decide
    have h1 := h w s
    rw [← SemLoc.dma.inj e] at h1
    exact absurd (cl_ge x.1 x.2.1 x.2.2) (by omega)

theorem ownSems_eq (c : Dev nD) :
    (Pipeline.ownSems0 (Ix := Unit) (Name := ℕ) (U := UU) (Lvl := ℕ) (Val := Elt F) (τ := τ) osem c : sProp 𝕄) =
      iprop(zeros c 0 ∗ zeros c 1) := by
  unfold Pipeline.ownSems0 osem
  exact cells_split fun a h j => semVal (dmaC c a h j) 0

theorem unscopedSems_eq (c : Dev nD) : (unscopedSems0 c : sProp 𝕄) = semVal (barC c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c) ⊢
      (bigSep Finset.univ fun k : Kx => semVal (kcell (c, k)) 0 : sProp 𝕄) := by
  rw [bigSep_univ_sum, unscopedSems_eq]
  unfold Pipeline.ownSems0
  show _ ⊢ iprop((bigSep (Finset.univ : Finset Unit) fun _ => (semVal (barC c) 0 : sProp 𝕄))
    ∗ bigSep Finset.univ fun x : Fin 4 × Fin 2 × Fin 16 => (semVal (dmaC c x.1 x.2.1 x.2.2) 0 : sProp 𝕄))
  rw [Finset.univ_unique (α := Unit), bigSep_singleton]
  iintro ⟨HO, HB⟩
  isplitl [HB]; · iexact HB
  iexact HO

/-! ## Opening the invariants -/

theorem open_cells (c : Dev nD) :
    iprop((bigSep Finset.univ fun k : Kx => semVal (kcell (c, k)) 0)
        ∗ bigSep Finset.univ fun k : Kx => roundState ER (Rd m) (kcell (c, k)) 0) ⊢
      (|={Set.univ}=> bigSep Finset.univ fun k : Kx => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- A device with its cells' invariants open. -/
def opened (c : Dev nD) : sProp 𝕄 :=
  iprop((bigSep Finset.univ fun k : Kx => iprop(∃ κ : ℕ, cellInv ER (Rd m) κ (kcell (c, k))))
    ∗ ((bigSep Finset.univ fun k : Kx => atPos ER (kcell (c, k)) 0 ∅ 0)
      ∗ bigSep Finset.univ fun k : Kx => reached ER (kcell (c, k)) 0) ∗ minted c)

theorem open_one (c : Dev nD) :
    iprop(Pipeline.ownSems0 (Ix := Unit) (Name := ℕ) (U := UU) (Lvl := ℕ) (Val := Elt F) (τ := τ) osem c ∗ unscopedSems0 c ∗ dealt m c) ⊢
      |={Set.univ}=> opened m c := by
  unfold dealt opened
  iintro ⟨Hos, Hus, Hst, Hat, Htok⟩
  ihave Hv := (sems_eq (F := F) c) $$ [Hos Hus]
  · isplitl [Hos] <;> iassumption
  imod (open_cells m c) $$ [Hv Hst] with Hinv
  · isplitl [Hv] <;> iassumption
  imodintro
  isplitl [Hinv]; · iexact Hinv
  isplitl [Hat]; · iexact Hat
  iexact Htok

theorem share_intro (K : Dev nD × Kx → ℕ) (c : Dev nD) : iprop(records m K ∗ posts c ∗ pays c) ⊢ share m c := by
  unfold share
  iintro H
  iexists K; iexact H

/-- What is persistent goes to everyone. -/
theorem to_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  refine (sep_mono_left (BI.bigSep_of_persistent (Finset.univ : Finset (Dev nD)) R)).trans ?_
  rw [← bigSep_sep']
  exact bigSep_mono fun c _ => h c

theorem deal : (bigSep Finset.univ (opened m) : sProp 𝕄) ⊢ bigSep Finset.univ (share m) := by
  unfold opened
  simp only [bigSep_sep']
  rw [← bigSep_univ_prod (fun x : Dev nD × Kx => iprop(∃ κ : ℕ, cellInv ER (Rd m) κ (kcell x))),
    ← bigSep_univ_prod (fun x : Dev nD × Kx => (reached ER (kcell x) 0 : sProp 𝕄)),
    bigSep_congr (s := Finset.univ) (fun (c : Dev nD) _ => posts_eq (F := F) c)]
  iintro ⟨HI, ⟨Hat, #HR⟩, Htok⟩
  ihave HK := (BI.bigSep_exists_pi Finset.univ (fun (x : Dev nD × Kx) (κ : ℕ) => (cellInv ER (Rd m) κ (kcell x) : sProp 𝕄))) $$ HI
  icases HK with ⟨%K, #HI⟩
  ihave Hp := (minted_pays (F := F)) $$ Htok
  iapply (to_all (R := records m K) fun c => share_intro m K c)
  isplitr
  · unfold records; isplitl; · iexact HI
    iexact HR
  rw [bigSep_sep']
  isplitl [Hat]; · iexact Hat
  iexact Hp

/-- Every device's semaphores and ghost state at once. -/
theorem glob :
    (bigSep Finset.univ fun c => iprop(Pipeline.ownSems0 (Ix := Unit) (Name := ℕ) (U := UU) (Lvl := ℕ) (Val := Elt F) (τ := τ) osem c
        ∗ unscopedSems0 c ∗ dealt m c) : sProp 𝕄) ⊢
      |={Set.univ}=> bigSep Finset.univ (share m) :=
  ((bigSep_mono fun c _ => open_one m c).trans (bigSep_fupd _ _)).trans (BI.fupd_mono (deal m))

end AllReduce
-- ==== Proof.Credits.lean ====
/- The credit a device holds at launch: what every other device owes its cells. -/
module

public import proofs.«01_k».proof.Proof.Body
public import Idealize.ShloMosaic.Lib.Pipeline.Launch

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The credit of a sum is the credit of each of its parts. -/
theorem cred_over (s : Finset (Fin 16)) (f : Fin 16 → CellTallies nD τ sig Unit) :
    (cred (∑ j ∈ s, f j) : sProp 𝕄) = bigSep s fun j => cred (f j) := by
  classical
  induction s using Finset.induction_on with
  | empty => rw [Finset.sum_empty, cred_zero, bigSep_empty]; rfl
  | insert j s hj ih =>
    rw [Finset.sum_insert hj, bigSep_insert hj, ← ih]
    exact BI.Entails.antisymm (cred_add _ _).1 (cred_add _ _).2

theorem tally_times (g : GSem nD τ sig) (n : ℕ) :
    n • (tallyAt g () 1 : CellTallies nD τ sig Unit) = tallyAt g () n := by
  induction n with
  | zero => rw [zero_nsmul, tallyAt_zero]
  | succ n ih => rw [succ_nsmul, ih, tallyAt_add]

/-- A tally that is not nothing at a cell is at that cell. -/
theorem tally_cell {g g' : GSem nD τ sig} {k : ℕ} (h : (tallyAt g () k : CellTallies nD τ sig Unit) g' ≠ 0) : g' = g := by
  by_contra hne
  exact h (tallyAt_ne_cell hne () k)

/-- Summing over the pairs of distinct devices, in either order. -/
theorem sum_pairs (f : Fin 16 → Fin 16 → CellTallies nD τ sig Unit) :
    (∑ d : Fin 16, ∑ j ∈ others d, f j d) = ∑ c : Fin 16, ∑ j ∈ others c, f c j :=
  Finset.sum_comm' fun d j => by
    simp only [Finset.mem_univ, true_and, and_true, mem_others]
    exact ne_comm

/-- What device `c` is owed on half `h`'s receive cells of exchange `a`. -/
theorem credit_dma (c : Dev nD) (a : Fin 4) (h : Fin 2) :
    (Pipeline.launchCred (fun d => owesDma d a h) c : sProp 𝕄) =
      bigSep (others c) fun j => cred (tallyAt (dmaC c a h j) () N) := by
  rw [Pipeline.launchCred_of_sum (fun d => owesDma d a h) (fun c => ∑ j ∈ others c, tallyAt (dmaC c a h j) () N)
    (sum_pairs fun c j => tallyAt (dmaC c a h j) () N) ?_ c, cred_over]
  intro d g hg
  rw [Finset.sum_apply] at hg
  obtain ⟨j, -, hj⟩ := Finset.exists_ne_zero_of_sum_ne_zero hg
  rw [tally_cell hj]

/-- What it is owed on its barrier. -/
theorem credit_bar (c : Dev nD) :
    (Pipeline.launchCred owesBar c : sProp 𝕄) = cred (tallyAt (barC c) () 15) := by
  rw [Pipeline.launchCred_of_sum owesBar (fun c => tallyAt (barC c) () 15) ?_ ?_ c]
  · refine (sum_pairs fun c _ => tallyAt (barC c) () 1).trans (Finset.sum_congr rfl fun c _ => ?_)
    rw [Finset.sum_const, others, Finset.card_erase_of_mem (Finset.mem_univ _)]
    exact tally_times (barC c) 15
  · intro d g hg
    rw [tally_cell hg]

/-- All of it. -/
theorem credits (c : Dev nD) :
    (Pipeline.launchCred O₀ c : sProp 𝕄) ⊢
      iprop(((((bigSep (others c) fun j => cred (tallyAt (dmaC c 3 1 j) () N)) ∗ bigSep (others c) fun j => cred (tallyAt (dmaC c 3 0 j) () N))
          ∗ bigSep (others c) fun j => cred (tallyAt (dmaC c 1 1 j) () N)) ∗ bigSep (others c) fun j => cred (tallyAt (dmaC c 1 0 j) () N))
        ∗ cred (tallyAt (barC c) () 15)) := by
  rw [show (O₀ : Dev nD → CellTallies nD τ sig Unit) = fun c => owesDma c 3 1 + owesDma c 3 0 + owesDma c 1 1 + owesDma c 1 0 + owesBar c from rfl,
    Pipeline.launchCred_add (fun c => owesDma c 3 1 + owesDma c 3 0 + owesDma c 1 1 + owesDma c 1 0) owesBar,
    Pipeline.launchCred_add (fun c => owesDma c 3 1 + owesDma c 3 0 + owesDma c 1 1) fun c => owesDma c 1 0,
    Pipeline.launchCred_add (fun c => owesDma c 3 1 + owesDma c 3 0) fun c => owesDma c 1 1,
    Pipeline.launchCred_add (fun c => owesDma c 3 1) fun c => owesDma c 3 0,
    credit_dma, credit_dma, credit_dma, credit_dma, credit_bar]

end AllReduce
-- ==== Proof.Run.lean ====
/- The kernel's run: from any memory with zero counters every execution ends, with the result array
   at the computed rows, the arguments unchanged and every counter zero. -/
module

public import proofs.«01_k».proof.Proof.Data
public import proofs.«01_k».proof.Proof.Ghost
public import proofs.«01_k».proof.Proof.Credits
public import Idealize.ShloMosaic.Lib.Pipeline.Kit
public import Idealize.ShloMosaic.Lib.Pipeline.CollectiveSegs

@[expose] public section

noncomputable section

namespace AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- What a device starts with, before its scratch buffers. -/
def begin₀ (c : Dev nD) : sProp 𝕄 := iprop(∃ K, ghost m K c)

theorem ghost_of (K : Dev nD × Kx → ℕ) (c : Dev nD) :
    iprop(Pipeline.launchCred O₀ c ∗ levAts L lv ∗ records m K ∗ posts c ∗ pays c) ⊢ ghost m K c := by
  unfold ghost facts gate places posts pays spots
  simp only [waiting_split]
  iintro ⟨Hcr, Hlev, HR, ⟨HaB, ⟨Hi0, Ha00, Ha10, Ha20, Ha30⟩, Hi1, Ha01, Ha11, Ha21, Ha31⟩, HtB, Ht0, Ht1⟩
  ihave Hc := (credits (F := F) c) $$ Hcr
  icases Hc with ⟨⟨⟨⟨H31, H30⟩, H11⟩, H10⟩, HB⟩
  isplitl [HR Hlev]
  · isplitl [HR] <;> iassumption
  isplitl [HB HaB HtB]
  · isplitl [HB]; · iexact HB
    isplitl [HaB] <;> iassumption
  isplitl [Ht0 Hi0 Ha00 Ha10 Ha20 Ha30 H10 H30]
  · isplitl [Ht0]; · iexact Ht0
    isplitr [Hi0]
    · isplitl [Ha00]; · iexact Ha00
      isplitl [H10 Ha10]
      · isplitl [H10] <;> iassumption
      isplitl [Ha20]; · iexact Ha20
      isplitl [H30] <;> iassumption
    · iexact Hi0
  isplitl [Ht1]; · iexact Ht1
  isplitr [Hi1]
  · isplitl [Ha01]; · iexact Ha01
    isplitl [H11 Ha11]
    · isplitl [H11] <;> iassumption
    isplitl [Ha21]; · iexact Ha21
    isplitl [H31] <;> iassumption
  · iexact Hi1

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m c) ⊢
      |={Set.univ}=> iprop(begin₀ m c ∗ emp) := by
  unfold share begin₀
  iintro ⟨-, Hlev, Hcr, -, %K, HR, Hat, Htok⟩
  imodintro
  isplitl
  · iexists K
    iapply (ghost_of m K c)
    isplitl [Hcr]; · iexact Hcr
    isplitl [Hlev]; · iexact Hlev
    isplitl [HR]; · iexact HR
    isplitl [Hat] <;> iassumption
  · iempintro

theorem enter (c : Dev nD) :
    iprop(begin₀ m c ∗ Pipeline.prefHeld Pipeline.Prefetch.none c (fun _ => fullShare.right) (fun k => k.elim0)
        ∗ Pipeline.scopedRest cfg0.spec c) ⊢ (dats m 0 c).Φ 0 := by
  rw [show (dats m 0 c).Φ 0 = start m c from rfl, scopedRest0_eq]
  unfold start begin₀ scratch
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after c from rfl, scopedRest0_eq, ownSems_eq, unscopedSems_eq]
  unfold after
  iintro ⟨Hs, Hr, Hg, HzB, Hz0, Hz1⟩
  isplitl [HzB]; · iexact HzB
  isplitl [Hz0 Hz1]
  · isplitl [Hz0] <;> iassumption
  isplitl [Hs]; · iexact Hs
  isplitl [Hr]; · iexact Hr
  iexact Hg

theorem level_stage : ∀ (w : Fin cfg0.W) s, level (.dma ((cfg0.spec w).sem s) : SemLoc sig) = 0 := by decide

theorem waits (c : Dev nD) : (levAts L lv : sProp 𝕄) ⊢ Pipeline.cellsWaits cfgs (dats m) () 0 c :=
  Pipeline.cellsWaits_intro cfgs (dats m) () 0 c fun w s t =>
    mayWait c (.dma ((cfg0.spec w).sem s)) (by
      rw [level_stage]
      rcases t with ⟨_ | _, ht⟩
      · exact above_O₀ c
      · exact Above.zero)

theorem share_full (c : Dev nD) (w : Fin cfg0.W) : (dats m 0 c).share w = fullShare := by
  unfold Dat.share; split <;> rfl

/-! ## The run -/

set_option maxRecDepth 8000 in
theorem run_main : θ_run (defs (F := F)) (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := fun w => by fin_cases w <;> exact Nat.succ_pos _)
    (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt m) (G' := share m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := begin₀ m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run, read at the arrays: on every device the result, the three arguments unchanged. -/
theorem kernel_run : θ_run (defs (F := F)) (onTc (τ := τ) (main (F := F))) ⟨m, fun _ => 0, ρ⟩ (fun r =>
    (∀ c : Dev nD, r.2.mem ((c : Thread nD τ).loc main_v1) = outAt m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run (defs (F := F)) _ _).mono (fun r h => ⟨fun c => ⟨(h.1 c (3 : Fin 4)).trans (out_final m c),
    (h.1 c (0 : Fin 4)).trans ((dats m 0 c).arrAt_in (0 : Fin 4) rfl _),
    (h.1 c (1 : Fin 4)).trans ((dats m 0 c).arrAt_in (1 : Fin 4) rfl _),
    (h.1 c (2 : Fin 4)).trans ((dats m 0 c).arrAt_in (2 : Fin 4) rfl _)⟩, h.2⟩) (run_main m ρ)

end AllReduce
-- ==== Proof.Same.lean ====
/- The kernel and its idealisation, at the machine's words: the same body table. -/
module

public import proofs.«01_k».proof.Proof.Gen.Kernel
public import proofs.«01_k».proof.Proof.Gen.KernelIdeal
public import Idealize.ShloMosaic.PureOps.BitExact

@[expose] public section

noncomputable section

namespace AllReduce

open Idealize.ShloMosaic

/-- The kernels' bodies, label by label. -/
theorem same_bodies : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl

theorem same_defs : Cert.Kernel.defs (F := Bits) = Cert.KernelIdeal.defs (F := Bits) :=
  congrArg (Pipeline.defs Cert.KernelIdeal.pcfgs) same_bodies

end AllReduce
-- ==== Proof.Root.lean ====
/- The one law the value claim needs on extended reals: to multiply by the reciprocal square root is to divide
   by the square root, wherever the root is taken of a positive number or of infinity. A mean of squares plus
   the small constant is such a number, whatever the row: a square is never negative, the infinities' included. -/
module

public import Idealize.ShloMosaic.Lib.Pointwise

@[expose] public section

noncomputable section

namespace AllReduce

open Idealize.ShloMosaic

/-- The length of a row, as the programs write it. -/
abbrev width : EReal := Ideal.ofBits .f32 0x44000000#32
/-- The small constant under the root, as the programs write it. -/
abbrev small : EReal := Ideal.ofBits .f32 0x358637BD#32

theorem width_eq : width = ((512 : ℝ) : EReal) := by
  simp [width, Ideal.ofBits, Ideal.ieee, -EReal.coe_mul]
  norm_num

theorem small_pos : 0 < small := by
  simp [small, Ideal.ofBits, Ideal.ieee, -EReal.coe_mul]

theorem square_nonneg (y : EReal) : 0 ≤ y * y := by
  rcases le_total 0 y with h | h
  · exact EReal.mul_nonneg h h
  · rw [← neg_mul_neg]
    exact EReal.mul_nonneg (EReal.neg_nonneg.mpr h) (EReal.neg_nonneg.mpr h)

/-- The mean of the squares of a row, and the small constant. -/
def spread (y : Fin 512 → EReal) : EReal := Ideal.div (∑ k, y k * y k) width + small

theorem spread_pos (y : Fin 512 → EReal) : 0 < spread y := by
  have h0 : 0 ≤ ∑ k, y k * y k := Finset.sum_nonneg fun k _ => square_nonneg (y k)
  have h1 : 0 ≤ Ideal.div (∑ k, y k * y k) width := by
    rw [width_eq]
    unfold Ideal.div
    rw [if_neg (by norm_num)]
    refine EReal.mul_nonneg h0 ?_
    rw [← EReal.coe_inv]
    exact_mod_cast (by norm_num : (0 : ℝ) ≤ (512 : ℝ)⁻¹)
  exact lt_of_lt_of_le small_pos (le_add_of_nonneg_left h1)

/-- Multiplying by the reciprocal root is dividing by the root. -/
theorem mul_rsqrt (y v : EReal) (hv : 0 < v) : y * Ideal.rsqrt v = Ideal.div y (Ideal.sqrt v) := by
  induction v using EReal.rec with
  | bot => simp at hv
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg hr.not_gt, if_neg hr.ne', if_neg hr.not_gt]
    unfold Ideal.div
    rw [if_neg (by exact_mod_cast hs), EReal.coe_inv]

end AllReduce
-- ==== Proof.Rows.lean ====
/- What the kernel computes of its blocks, index by index, on extended reals: one row of one half-block
   normalised; where a half of a buffer, and a half of a device's rows of the residual, are read; where an
   element of a block goes when it is laid out by destination, and where it comes from in the result. -/
module

public import proofs.«01_k».proof.Proof.Pieces
public import proofs.«01_k».proof.Proof.Root

@[expose] public section

set_option maxRecDepth 16384

noncomputable section

namespace AllReduce

open Cert.KernelIdeal Cert.KernelIdeal.Gen
open Idealize.ShloMosaic

/-- Row `32 s + 16 h + r` of an array: row `r` of half `h` of device `s`'s rows. -/
def rowOf (s : Fin 16) (h : Fin 2) (r : Fin 16) : Fin 512 :=
  ⟨32 * s.val + 16 * h.val + r.val, by omega⟩

/-- A row of a half-block: the sixteen blocks' rows summed with the residual's, normalised and scaled. -/
theorem pay4_apply (v : Vec Ideal S16x1x16x512 .bf16) (w : Vec Ideal S16x512 .bf16) (g : Vec Ideal S512 .bf16)
    (r : Fin 16) (l : Fin 512) (y : Fin 512 → EReal)
    (hy : ∀ k, y k = (∑ d : Fin 16, v (ix4 d 0 r k)) + w (ix2 r k)) :
    k0_pay4 v w g (ix4 0 0 r l) = y l * Ideal.rsqrt (spread y) * g (ix1 l) := by
  unfold spread
  simp only [hy]
  pointwise [k0_pay4]

theorem ix4_ext {x : Ix} {a : Fin 16} {h : Fin 2} {r : Fin 16} {l : Fin 512} (h0 : (x 0).val = a.val)
    (h1 : (x 1).val = h.val) (h2 : (x 2).val = r.val) (h3 : (x 3).val = l.val) : x = ix4 a h r l := by
  funext k
  fin_cases k
  · exact Fin.ext h0
  · exact Fin.ext h1
  · exact Fin.ext h2
  · exact Fin.ext h3

/-- Half `h` of a buffer. -/
theorem halfOf_apply (h : Fin 2) (f : Held Ideal) (d r : Fin 16) (l : Fin 512) :
    halfOf h f (ix4 d 0 r l) = f (ix4 d h r l) := by
  refine congrArg f (ix4_ext ?_ ?_ ?_ ?_)
  · show 0 + 1 * d.val = d.val
    omega
  · show h.val + 1 * 0 = h.val
    omega
  · show 0 + 1 * r.val = r.val
    omega
  · show 0 + 1 * l.val = l.val
    omega

theorem ix2_ext {x : S512x512.Idx} {r l : Fin 512} (h0 : (x 0).val = r.val) (h1 : (x 1).val = l.val) :
    x = ix2 r l := by
  funext k
  fin_cases k
  · exact Fin.ext h0
  · exact Fin.ext h1

/-- Half `h` of device `c`'s rows of the residual. -/
theorem resOf_apply (c : Dev nD) (h : Fin 2) (f : Vec Ideal S512x512 .bf16) (r : Fin 16) (l : Fin 512) :
    resOf c h f (ix2 r l) = f (ix2 (rowOf c h r) l) := by
  have e := k0_off66_eq c h
  refine congrArg f (ix2_ext ?_ ?_)
  · show k0_off66 c (BitVec.ofNat 32 (16 * h.val)) 0 + 1 * r.val = 32 * c.val + 16 * h.val + r.val
    rw [e, one_mul]
    rfl
  · show k0_off66 c (BitVec.ofNat 32 (16 * h.val)) 1 + 1 * l.val = l.val
    rw [e, one_mul]
    exact Nat.zero_add _

/-- A block laid out by destination. -/
theorem pay2_apply (x : Vec Ideal S1x512x512 .bf16) (s : Fin 16) (h : Fin 2) (r : Fin 16) (l : Fin 512) :
    k0_pay2 x (ix4 s h r l) = x (ix3 0 (rowOf s h r) l) := by
  have e : rowOf s h r = ⟨s.val * 32 + h.val * 16 + r.val, by omega⟩ :=
    Fin.ext (show 32 * s.val + 16 * h.val + r.val = s.val * 32 + h.val * 16 + r.val by omega)
  rw [e]
  pointwise [k0_pay2]

/-- The slots laid out as an array. -/
theorem pay1_apply (f : Held Ideal) (s : Fin 16) (h : Fin 2) (r : Fin 16) (l : Fin 512) :
    k0_pay1 f (ix2 (rowOf s h r) l) = f (ix4 s h r l) := by
  pointwise [k0_pay1]
  refine congrArg f (ix4_ext ?_ ?_ ?_ rfl)
  · show (32 * s.val + 16 * h.val + r.val) / 32 = s.val
    omega
  · show (32 * s.val + 16 * h.val + r.val) / 16 % 2 = h.val
    omega
  · show (32 * s.val + 16 * h.val + r.val) % 16 = r.val
    omega

/-- Every row is some half's. -/
theorem rowOf_surj (i : Fin 512) : ∃ s h r, i = rowOf s h r :=
  ⟨⟨i.val / 32, by omega⟩, ⟨i.val / 16 % 2, by omega⟩, ⟨i.val % 16, by omega⟩,
    Fin.ext (show i.val = 32 * (i.val / 32) + 16 * (i.val / 16 % 2) + i.val % 16 by omega)⟩

end AllReduce
-- ==== Proof.Array.lean ====
/- What the result holds at the ideal instance: at row `i` and column `l`, row `i` of the sum of the devices'
   blocks and the residual, times the reciprocal root of its mean square, times the scale. The residual and the
   scale are read on the device whose rows they are. -/
module

public import proofs.«01_k».proof.Proof.Rows

@[expose] public section

set_option maxRecDepth 16384

noncomputable section

namespace AllReduce

open Cert.KernelIdeal Cert.KernelIdeal.Gen
open Idealize.ShloMosaic

variable (m : (ℓ : Loc nD τ sig) → Buf (Elt Ideal) ℓ)

/-- What device `c` receives: the rows it owns of every device's block. -/
theorem R_apply (c d : Dev nD) (h : Fin 2) (r : Fin 16) (l : Fin 512) :
    R m c (ix4 d h r l) = xAt m d (ix3 0 (rowOf c h r) l) := by
  show X m d (move c h (ix4 d h r l)) = _
  rw [show move c h (ix4 d h r l) = ix4 c h r l from ix4_ext rfl rfl rfl rfl]
  exact pay2_apply (xAt m d) c h r l

/-- Row `i` of the sum, before it is normalised, by what device `c` holds of the residual. -/
def sumAt (c : Dev nD) (i : Fin 512) (l : Fin 512) : EReal :=
  (∑ d : Fin 16, (xAt m d (ix3 0 i l) : EReal)) + (resAt m c (ix2 i l) : EReal)

theorem rows_apply (c : Dev nD) (h : Fin 2) (r : Fin 16) (l : Fin 512) :
    rows m c h (ix4 0 0 r l) =
      sumAt m c (rowOf c h r) l * Ideal.rsqrt (spread (sumAt m c (rowOf c h r))) * gamAt m c (ix1 l) := by
  refine pay4_apply _ _ _ r l (sumAt m c (rowOf c h r)) fun k => ?_
  rw [resOf_apply]
  exact congrArg₂ (fun a b : EReal => a + b)
    (Finset.sum_congr rfl fun d _ => ((halfOf_apply h (R m c) d r k).trans (R_apply m c d h r k)).symm) rfl

/-- The result, at a row and a column. -/
theorem outAt_apply (s : Fin 16) (h : Fin 2) (r : Fin 16) (l : Fin 512) :
    outAt m (ix2 (rowOf s h r) l) =
      sumAt m s (rowOf s h r) l * Ideal.rsqrt (spread (sumAt m s (rowOf s h r))) * gamAt m s (ix1 l) := by
  unfold outAt
  rw [pay1_apply]
  show rows m s h (inSlot (ix4 s h r l)) = _
  rw [← rows_apply]
  refine congrArg (rows m s h) (funext fun k => ?_)
  fin_cases k <;> rfl

end AllReduce
-- ==== Proof.Reference.lean ====
/- What the reference computes at the ideal instance, index by index. -/
module

public import proofs.«01_k».proof.Proof.Gen.ReferenceIdeal
public import proofs.«01_k».proof.Proof.Root

@[expose] public section

set_option maxRecDepth 16384

noncomputable section

namespace AllReduce.Reference

open Cert.ReferenceIdeal Cert.ReferenceIdeal.Gen
open Idealize.ShloMosaic

variable (x : FVec Ideal S16x512x512 .bf16) (w : FVec Ideal S512x512 .bf16) (g : FVec Ideal S512 .bf16)

/-- The blocks' sum and the residual. -/
def total : FVec Ideal S512x512 .f32 :=
  addf (Host.reduceAdd (extf .f32 x bitsLt_bf16_f32) (constant S_ .f32 0x00000000#32)
    reducesTo_S16x512x512_S512x512_d0 h_S_) (extf .f32 w bitsLt_bf16_f32)

/-- The reference's result, as its operations compose it. -/
def result : FVec Ideal S512x512 .f32 :=
  mulf
    (Host.divf (total x w) (broadcastInDim S512x512 ![0, 1] bcast_S512x1_S512x512_0_1 (Host.sqrt (addf
      (Host.divf
        (broadcastInDim S512x1 ![0] bcast_S512_S512x1_0
          (Host.reduceAdd (mulf (total x w) (total x w)) (constant S_ .f32 0x00000000#32) reducesTo_S512x512_S512_d1 h_S_))
        (broadcastInDim S512x1 ![] bcast_S_S512x1 (constant S_ .f32 0x44000000#32)))
      (broadcastInDim S512x1 ![] bcast_S_S512x1 (constant S_ .f32 0x358637BD#32))))))
    (broadcastInDim S512x512 ![0, 1] bcast_S1x512_S512x512_0_1
      (broadcastInDim S1x512 ![1] bcast_S512_S1x512_1 (extf .f32 g bitsLt_bf16_f32)))

/-- Row `i` of the sum. -/
def sum (i l : Fin 512) : EReal := (∑ d : Fin 16, (x (ix3 d i l) : EReal)) + (w (ix2 i l) : EReal)

/-- The result, at a row and a column. -/
theorem result_apply (i l : Fin 512) :
    result x w g (ix2 i l) = Ideal.div (sum x w i l) (Ideal.sqrt (spread (sum x w i))) * g (ix1 l) := by
  unfold spread sum
  pointwise [result, total]

end AllReduce.Reference
-- ==== Proof.Equation.lean ====
/- The equation of the value claim: what every device holds at the end is what the reference computes, whatever
   the arguments. -/
module

public import proofs.«01_k».proof.Proof.Array
public import proofs.«01_k».proof.Proof.Reference
public import Idealize.ShloMosaic.Lib.Layout

@[expose] public section

set_option maxRecDepth 16384

noncomputable section

namespace AllReduce

open Cert.KernelIdeal Cert.KernelIdeal.Gen
open Idealize.ShloMosaic

variable (m : (ℓ : Loc nD τ sig) → Buf (Elt Ideal) ℓ)
variable (x : FVec Ideal Cert.ReferenceIdeal.S16x512x512 .bf16) (w : FVec Ideal Cert.ReferenceIdeal.S512x512 .bf16)
  (g : FVec Ideal Cert.ReferenceIdeal.S512 .bf16)

/-- A device's block of the whole array, at an index. -/
theorem block_at (d : Fin 16) (i l : Fin 512) :
    (Layout.block ⟨3, ![1, 512, 512]⟩ ⟨3, ![16, 512, 512]⟩ 0 16 d x) (ix3 0 i l) = x (ix3 d i l) := by
  refine congrArg x (funext fun b => Fin.ext ?_)
  fin_cases b
  · show d.val * 1 + 0 = d.val
    omega
  · rfl
  · rfl

theorem sums_agree (hx : ∀ d, xAt m d = Layout.block ⟨3, ![1, 512, 512]⟩ ⟨3, ![16, 512, 512]⟩ 0 16 d x)
    (hw : ∀ d, resAt m d = w) (c : Dev nD) (i : Fin 512) : sumAt m c i = Reference.sum x w i := by
  funext l
  refine congrArg₂ (fun a b : EReal => a + b) (Finset.sum_congr rfl fun d _ => ?_) (congrFun (hw c) _)
  exact (congrFun (hx d) _).trans (block_at x d i l)

/-- The kernel's result is the reference's. -/
theorem outAt_eq (hx : ∀ d, xAt m d = Layout.block ⟨3, ![1, 512, 512]⟩ ⟨3, ![16, 512, 512]⟩ 0 16 d x)
    (hw : ∀ d, resAt m d = w) (hg : ∀ d, gamAt m d = g) : outAt m = Reference.result x w g := by
  funext j
  obtain ⟨i, l, rfl⟩ : ∃ (i l : Fin 512), j = ix2 i l := ⟨j 0, j 1, eq_ix2 j⟩
  obtain ⟨s, h, r, rfl⟩ := rowOf_surj i
  rw [outAt_apply, Reference.result_apply, sums_agree m x w hx hw, hg, mul_rsqrt _ _ (spread_pos _)]

end AllReduce
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem

/-- The kernel's frame: its run at the machine's words, read at the arguments and the counters. -/
theorem frame_kernel : Cert.quiescent_Kernel := fun m ρ _ => by
  rw [AllReduce.same_defs]
  exact (θ_run (Cert.KernelIdeal.defs (F := Bits)) _ _).mono (fun _ h => ⟨fun c => (h.1 c).2, h.2⟩)
    (AllReduce.kernel_run (F := Bits) m ρ)

/-- The idealised kernel's frame: the same run at the ideal instance. -/
theorem frame_ideal : Cert.quiescent_KernelIdeal := fun m ρ _ =>
  (θ_run Cert.KernelIdeal.defs _ _).mono (fun _ h => ⟨fun c => (h.1 c).2, h.2⟩)
    (AllReduce.kernel_run (F := Ideal) m ρ)

/-- The reference's frame: its operations leave the arguments alone, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The value claim: every device ends with the array the reference computes of the whole arguments. -/
theorem value : Cert.algebraic_KernelIdeal_ReferenceIdeal := fun m ρ m' ρ' _ hagree =>
  ⟨AllReduce.outAt m,
    (θ_run Cert.KernelIdeal.defs _ _).mono (fun _ h => h.1) (AllReduce.kernel_run (F := Ideal) m ρ),
    (θ_run Cert.ReferenceIdeal.defs _ _).mono
      (fun _ h => ⟨(h 0).1.trans (AllReduce.outAt_eq m _ _ _ (fun d => (hagree d).1) (fun d => (hagree d).2.1)
        fun d => (hagree d).2.2).symm, (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
